-- ==== Defs.lean ====
def Pre_Kernel [hPre_admissible : Cert.Pre_admissible.Facts] (m : (ℓ : Loc Cert.Kernel.nD Cert.Kernel.τ Cert.Kernel.sig) → Buf (Elt Bits) ℓ) : Prop :=
  ∀ c : Dev Cert.Kernel.nD,
    (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.2.2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.2.2.2.1 = (fun _ => 1#1)
    ∧ (Cert.Pre_admissible.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2.2.2.2.2 = (fun _ => 1#1)

def Pre_KernelIdeal [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2.2.2.2 = (fun _ => 1#1)

def Pre_ReferenceIdeal [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2.2.2.2 = (fun _ => 1#1)

def quiescent_Kernel [hKernel : Cert.Kernel.Facts] [hPre_admissible : Cert.Pre_admissible.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "m0" .f32 0x3BB8AA3B#32 ((((Real.log 2) * 256)⁻¹ : ℝ) : EReal)
  ∧ IdealRules.named_const.Statement Cert.KernelIdeal.κ "c0" .f32 0xBB38AA3B#32 ((-((1 / 2) * ((Real.log 2) * 256)⁻¹) : ℝ) : EReal)
  ∧ IdealRules.named_const.Statement Cert.KernelIdeal.κ "bias0" .f32 0xC0549A78#32 (((Real.log (13421773 / 134217728)) * (Real.log 2)⁻¹ : ℝ) : EReal)
  ∧ IdealRules.named_const.Statement Cert.KernelIdeal.κ "m1" .f32 0x3C8BF32B#32 ((((Real.log 2) * (11068835 / 131072))⁻¹ : ℝ) : EReal)
  ∧ IdealRules.named_const.Statement Cert.KernelIdeal.κ "c1" .f32 0xBC0BF32B#32 ((-((1 / 2) * ((Real.log 2) * (11068835 / 131072))⁻¹) : ℝ) : EReal)
  ∧ IdealRules.named_const.Statement Cert.KernelIdeal.κ "bias1" .f32 0xC06711E5#32 (((Real.log (5494409 / 67108864)) * (Real.log 2)⁻¹ : ℝ) : EReal)
  ∧ IdealRules.named_const.Statement Cert.KernelIdeal.κ "m2" .f32 0x3D541FD5#32 ((((Real.log 2) * (14605415 / 524288))⁻¹ : ℝ) : EReal)
  ∧ IdealRules.named_const.Statement Cert.KernelIdeal.κ "c2" .f32 0xBCD41FD5#32 ((-((1 / 2) * ((Real.log 2) * (14605415 / 524288))⁻¹) : ℝ) : EReal)
  ∧ IdealRules.named_const.Statement Cert.KernelIdeal.κ "bias2" .f32 0xC0798951#32 (((Real.log (8996883 / 134217728)) * (Real.log 2)⁻¹ : ℝ) : EReal)
  ∧ IdealRules.named_const.Statement Cert.KernelIdeal.κ "m3" .f32 0x3E20C29C#32 ((((Real.log 2) * (2408995 / 262144))⁻¹ : ℝ) : EReal)
  ∧ IdealRules.named_const.Statement Cert.KernelIdeal.κ "c3" .f32 0xBDA0C29C#32 ((-((1 / 2) * ((Real.log 2) * (2408995 / 262144))⁻¹) : ℝ) : EReal)
  ∧ IdealRules.named_const.Statement Cert.KernelIdeal.κ "bias3" .f32 0xC086005F#32 (((Real.log (7366025 / 134217728)) * (Real.log 2)⁻¹ : ℝ) : EReal)
  ∧ IdealRules.named_const.Statement Cert.KernelIdeal.κ "m4" .f32 0x3EF3AAB9#32 ((((Real.log 2) * (49667 / 16384))⁻¹ : ℝ) : EReal)
  ∧ IdealRules.named_const.Statement Cert.KernelIdeal.κ "c4" .f32 0xBE73AAB9#32 ((-((1 / 2) * ((Real.log 2) * (49667 / 16384))⁻¹) : ℝ) : EReal)
  ∧ IdealRules.named_const.Statement Cert.KernelIdeal.κ "bias4" .f32 0xC08F3C15#32 (((Real.log (12061583 / 268435456)) * (Real.log 2)⁻¹ : ℝ) : EReal)

def algebraic_KernelIdeal_ReferenceIdeal [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel) (hPre_admissible := hPre_admissible)
    ∧ quiescent_KernelIdeal (hKernelIdeal := hKernelIdeal) (hPre_admissible := hPre_admissible)
    ∧ quiescent_ReferenceIdeal (hReferenceIdeal := hReferenceIdeal) (hPre_admissible := hPre_admissible)
    ∧ preserves_Kernel_KernelIdeal
    ∧ algebraic_KernelIdeal_ReferenceIdeal (hKernelIdeal := hKernelIdeal) (hReferenceIdeal := hReferenceIdeal) (hPre_admissible := hPre_admissible)
-- ==== Pre_admissible.lean ====
abbrev S1024x64 : Shape := ⟨2, ![1024, 64]⟩
abbrev S1024x2 : Shape := ⟨2, ![1024, 2]⟩
abbrev S_ : Shape := ⟨0, ![]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S1024x1024 : Shape := ⟨2, ![1024, 1024]⟩
abbrev S1024 : Shape := ⟨1, ![1024]⟩
abbrev S1024x1 : Shape := ⟨2, ![1024, 1]⟩
abbrev S1024x1x2 : Shape := ⟨3, ![1024, 1, 2]⟩
abbrev S1x1024x2 : Shape := ⟨3, ![1, 1024, 2]⟩
abbrev S1024x1024x2 : Shape := ⟨3, ![1024, 1024, 2]⟩
abbrev S1024x1024x1 : Shape := ⟨3, ![1024, 1024, 1]⟩

class Facts : Prop where
  bcast_S_S1024x2 : S_.BroadcastsInDim S1024x2 (![] : Fin 0 → Fin S1024x2.rank)
  bcast_S_S1024x64 : S_.BroadcastsInDim S1024x64 (![] : Fin 0 → Fin S1024x64.rank)
  bcast_S1024x64_S1024x1x64_0_2 : S1024x64.BroadcastsInDim S1024x1x64 (![0, 2] : Fin 2 → Fin S1024x1x64.rank)
  bcast_S1024x64_S1x1024x64_1_2 : S1024x64.BroadcastsInDim S1x1024x64 (![1, 2] : Fin 2 → Fin S1x1024x64.rank)
  bcast_S1024x1x64_S1024x1024x64_0_1_2 : S1024x1x64.BroadcastsInDim S1024x1024x64 (![0, 1, 2] : Fin 3 → Fin S1024x1024x64.rank)
  bcast_S1x1024x64_S1024x1024x64_0_1_2 : S1x1024x64.BroadcastsInDim S1024x1024x64 (![0, 1, 2] : Fin 3 → Fin S1024x1024x64.rank)
  reducesTo_S1024x1024x64_S1024x1024_d2 : S1024x1024x64.ReducesTo [2] S1024x1024
  h_S_ : 0 < S_.numel
  reducesTo_S1024x1024_S1024_d1 : S1024x1024.ReducesTo [1] S1024
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  natLt_1_32 : 1 < 32
  bcast_S_S1024 : S_.BroadcastsInDim S1024 (![] : Fin 0 → Fin S1024.rank)
  bcast_S1024x2_S1024x1x2_0_2 : S1024x2.BroadcastsInDim S1024x1x2 (![0, 2] : Fin 2 → Fin S1024x1x2.rank)
  bcast_S1024x2_S1x1024x2_1_2 : S1024x2.BroadcastsInDim S1x1024x2 (![1, 2] : Fin 2 → Fin S1x1024x2.rank)
  bcast_S1x1024x2_S1024x1024x2_0_1_2 : S1x1024x2.BroadcastsInDim S1024x1024x2 (![0, 1, 2] : Fin 3 → Fin S1024x1024x2.rank)
  bcast_S1024x1x2_S1024x1024x2_0_1_2 : S1024x1x2.BroadcastsInDim S1024x1024x2 (![0, 1, 2] : Fin 3 → Fin S1024x1024x2.rank)
  reducesTo_S1024x1024x2_S1024x1024_d2 : S1024x1024x2.ReducesTo [2] S1024x1024
  bcast_S1024x1024_S1024x1024x1_0_1 : S1024x1024.BroadcastsInDim S1024x1024x1 (![0, 1] : Fin 2 → Fin S1024x1024x1.rank)
  bcast_S_S1024x1024x1 : S_.BroadcastsInDim S1024x1024x1 (![] : Fin 0 → Fin S1024x1024x1.rank)
  bcast_S1024x1024x1_S1024x1024x64_0_1_2 : S1024x1024x1.BroadcastsInDim S1024x1024x64 (![0, 1, 2] : Fin 3 → Fin S1024x1024x64.rank)
  reducesTo_S1024x1024x64_S1024x64_d0 : S1024x1024x64.ReducesTo [0] S1024x64
  gather_S1024x2_S1024x1_S1024x2_1_0_n_n_0_1_12_wf : GatherDims.WF S1024x2 S1024x1 S1024x2 [1] [0] [] [0] [] 1 ![1, 2]

variable [Facts]

variable {F : FTy → Type} [FloatOps F]
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S1024x2_S1024x1_S1024x2_1_0_n_n_0_1_12 : GatherDims S1024x2 S1024x1 S1024x2 where
  offsetDims := [1]
  collapsedSliceDims := [0]
  operandBatchingDims := []
  startIndicesBatchingDims := []
  startIndexMap := [0]
  indexVectorDim := 1
  sliceSizes := ![1, 2]
  wf := gather_S1024x2_S1024x1_S1024x2_1_0_n_n_0_1_12_wf

def fn_argmin {F : FTy → Type} [FloatOps F] (arg0 : FVec F S1024x1024 .f32) : IVec S1024 32 :=
  let v0 : IVec S1024x1024 32 := iotaInDim S1024x1024 32 1
  let cst : FVec F S_ .f32 := constant S_ .f32 0x7F800000#32
  let c : IVec S_ 32 := constantI S_ 32 0#32
  let v1_0 : FVec F S1024 .f32 := (fun x y u v j => (Host.argReduce reducer_argmin_f32_i32 x y u v reducesTo_S1024x1024_S1024_d1 h_S_ j).1) arg0 v0 cst c
  let v1_1 : IVec S1024 32 := (fun x y u v j => (Host.argReduce reducer_argmin_f32_i32 x y u v reducesTo_S1024x1024_S1024_d1 h_S_ j).2) arg0 v0 cst c
  v1_1

def fn_relu {F : FTy → Type} [FloatOps F] (arg0 : FVec F S1024x1024x1 .f32) : FVec F S1024x1024x1 .f32 :=
  let cst : FVec F S_ .f32 := constant S_ .f32 0x00000000#32
  let v0 : FVec F S1024x1024x1 .f32 := broadcastInDim S1024x1024x1 ![] bcast_S_S1024x1024x1 cst
  let v1 : FVec F S1024x1024x1 .f32 := maximumf arg0 v0
  v1

def fn_part15 {F : FTy → Type} [FloatOps F] (main_v11 : IVec S1024x64 1) (main_v14 : IVec S1024x64 1) (main_v15 : IVec S1024x2 1) (main_v30 : IVec S1024 1) (main_v85 : IVec S1024 1) (main_v140 : IVec S1024 1) (main_v195 : IVec S1024 1) (main_v236 : FVec F S1024x64 .f32) (main_v250 : IVec S1024 1) (main_v288 : FVec F S1024x64 .f32) (main_v289 : FVec F S1024x64 .f32) : IVec S1024x64 1 × IVec S1024x64 1 × IVec S1024x2 1 × IVec S1024 1 × IVec S1024 1 × IVec S1024 1 × IVec S1024 1 × IVec S1024 1 :=
  let main_v290 : FVec F S1024x64 .f32 := Host.divf main_v288 main_v289
  let main_v291 : FVec F S1024x64 .f32 := addf main_v236 main_v290
  (main_v11, main_v14, main_v15, main_v30, main_v85, main_v140, main_v195, main_v250)

def fn_part14 {F : FTy → Type} [FloatOps F] (main_v11 : IVec S1024x64 1) (main_v14 : IVec S1024x64 1) (main_v15 : IVec S1024x2 1) (main_v16 : FVec F S1024x1x64 .f32) (main_v30 : IVec S1024 1) (main_v85 : IVec S1024 1) (main_v140 : IVec S1024 1) (main_v195 : IVec S1024 1) (main_v236 : FVec F S1024x64 .f32) (main_v250 : IVec S1024 1) (main_v266 : IVec S1024x1024x1 32) (main_v270 : FVec F S1024x1024x1 .f32) : IVec S1024x64 1 × IVec S1024x64 1 × IVec S1024x2 1 × IVec S1024 1 × IVec S1024 1 × IVec S1024 1 × IVec S1024 1 × IVec S1024 1 :=
  let main_v271 : FVec F S1024x1024x1 .f32 := fn_relu (F := F) main_v270
  let main_v272 : FVec F S1024x1024x1 .f32 := sitofp .f32 main_v266
  let main_cst_63 : FVec F S_ .f32 := constant S_ .f32 0xBF000000#32
  let main_v273 : FVec F S1024x1024x1 .f32 := broadcastInDim S1024x1024x1 ![] bcast_S_S1024x1024x1 main_cst_63
  let main_v274 : FVec F S1024x1024x1 .f32 := mulf main_v273 main_v272
  let main_cst_64 : FVec F S_ .f32 := constant S_ .f32 0x40420300#32
  let main_v275 : FVec F S1024x1024x1 .f32 := broadcastInDim S1024x1024x1 ![] bcast_S_S1024x1024x1 main_cst_64
  let main_v276 : FVec F S1024x1024x1 .f32 := Host.divf main_v274 main_v275
  let main_v277 : FVec F S1024x1024x1 .f32 := Host.exp main_v276
  let main_cst_65 : FVec F S_ .f32 := constant S_ .f32 0x3D380B8F#32
  let main_v278 : FVec F S1024x1024x1 .f32 := broadcastInDim S1024x1024x1 ![] bcast_S_S1024x1024x1 main_cst_65
  let main_v279 : FVec F S1024x1024x1 .f32 := mulf main_v278 main_v277
  let main_v280 : FVec F S1024x1024x1 .f32 := mulf main_v279 main_v271
  let main_v281 : FVec F S1x1024x64 .f32 := broadcastInDim S1x1024x64 ![1, 2] bcast_S1024x64_S1x1024x64_1_2 main_v236
  let main_v282 : FVec F S1024x1024x64 .f32 := broadcastInDim S1024x1024x64 ![0, 1, 2] bcast_S1024x1x64_S1024x1024x64_0_1_2 main_v16
  let main_v283 : FVec F S1024x1024x64 .f32 := broadcastInDim S1024x1024x64 ![0, 1, 2] bcast_S1x1024x64_S1024x1024x64_0_1_2 main_v281
  let main_v284 : FVec F S1024x1024x64 .f32 := subf main_v282 main_v283
  let main_v285 : FVec F S1024x1024x1 .f32 := id main_v280
  let main_v286 : FVec F S1024x1024x64 .f32 := broadcastInDim S1024x1024x64 ![0, 1, 2] bcast_S1024x1024x1_S1024x1024x64_0_1_2 main_v285
  let main_v287 : FVec F S1024x1024x64 .f32 := mulf main_v286 main_v284
  let main_cst_66 : FVec F S_ .f32 := constant S_ .f32 0x00000000#32
  let main_v288 : FVec F S1024x64 .f32 := (fun x v => Host.reduceAdd x v reducesTo_S1024x1024x64_S1024x64_d0 h_S_) main_v287 main_cst_66
  let main_cst_67 : FVec F S_ .f32 := constant S_ .f32 0x44800000#32
  let main_v289 : FVec F S1024x64 .f32 := broadcastInDim S1024x64 ![] bcast_S_S1024x64 main_cst_67
  fn_part15 (F := F) main_v11 main_v14 main_v15 main_v30 main_v85 main_v140 main_v195 main_v236 main_v250 main_v288 main_v289

def fn_part13 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v85 : IVec S1024 1) (main_v140 : IVec S1024 1) (main_v195 : IVec S1024 1) (main_v236 : FVec F S1024x64 .f32) (main_v242 : FVec F S1024x1024 .f32) (main_v250 : IVec S1024 1) : IVec S1024x64 1 × IVec S1024x64 1 × IVec S1024x2 1 × IVec S1024 1 × IVec S1024 1 × IVec S1024 1 × IVec S1024 1 × IVec S1024 1 :=
  let main_v251 : IVec S1024 32 := fn_argmin (F := F) main_v242
  let main_c_59 : IVec S_ 32 := constantI S_ 32 0#32
  let main_v252 : IVec S1024 32 := broadcastInDim S1024 ![] bcast_S_S1024 main_c_59
  let main_v253 : IVec S1024 1 := cmpi .slt main_v251 main_v252
  let main_c_60 : IVec S_ 32 := constantI S_ 32 1024#32
  let main_v254 : IVec S1024 32 := broadcastInDim S1024 ![] bcast_S_S1024 main_c_60
  let main_v255 : IVec S1024 32 := addi main_v251 main_v254
  let main_v256 : IVec S1024 32 := select main_v253 main_v255 main_v251
  let main_v257 : IVec S1024x1 32 := broadcastInDim S1024x1 ![0] bcast_S1024_S1024x1_0 main_v256
  let main_v258 : IVec S1024x2 32 := (fun x i => Host.gather gather_S1024x2_S1024x1_S1024x2_1_0_n_n_0_1_12 x i) main_arg2 main_v257
  let main_v259 : IVec S1024x1x2 32 := broadcastInDim S1024x1x2 ![0, 2] bcast_S1024x2_S1024x1x2_0_2 main_v258
  let main_v260 : IVec S1x1024x2 32 := broadcastInDim S1x1024x2 ![1, 2] bcast_S1024x2_S1x1024x2_1_2 main_arg2
  let main_v261 : IVec S1024x1024x2 32 := broadcastInDim S1024x1024x2 ![0, 1, 2] bcast_S1x1024x2_S1024x1024x2_0_1_2 main_v260
  let main_v262 : IVec S1024x1024x2 32 := broadcastInDim S1024x1024x2 ![0, 1, 2] bcast_S1024x1x2_S1024x1024x2_0_1_2 main_v259
  let main_v263 : IVec S1024x1024x2 32 := subi main_v261 main_v262
  let main_v264 : IVec S1024x1024x2 32 := muli main_v263 main_v263
  let main_c_61 : IVec S_ 32 := constantI S_ 32 0#32
  let main_v265 : IVec S1024x1024 32 := (fun x v => Host.reduce IntOp.addi x v reducesTo_S1024x1024x2_S1024x1024_d2 h_S_) main_v264 main_c_61
  let main_v266 : IVec S1024x1024x1 32 := broadcastInDim S1024x1024x1 ![0, 1] bcast_S1024x1024_S1024x1024x1_0_1 main_v265
  let main_v267 : FVec F S1024x1024x1 .f32 := sitofp .f32 main_v266
  let main_cst_62 : FVec F S_ .f32 := constant S_ .f32 0x40420300#32
  let main_v268 : FVec F S1024x1024x1 .f32 := broadcastInDim S1024x1024x1 ![] bcast_S_S1024x1024x1 main_cst_62
  let main_v269 : FVec F S1024x1024x1 .f32 := subf main_v268 main_v267
  let main_v270 : FVec F S1024x1024x1 .f32 := Host.sign main_v269
  fn_part14 (F := F) main_v11 main_v14 main_v15 main_v16 main_v30 main_v85 main_v140 main_v195 main_v236 main_v250 main_v266 main_v270

def fn_part12 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v85 : IVec S1024 1) (main_v140 : IVec S1024 1) (main_v181 : FVec F S1024x64 .f32) (main_v195 : IVec S1024 1) (main_v232 : FVec F S1024x1024x64 .f32) : IVec S1024x64 1 × IVec S1024x64 1 × IVec S1024x2 1 × IVec S1024 1 × IVec S1024 1 × IVec S1024 1 × IVec S1024 1 × IVec S1024 1 :=
  let main_cst_53 : FVec F S_ .f32 := constant S_ .f32 0x00000000#32
  let main_v233 : FVec F S1024x64 .f32 := (fun x v => Host.reduceAdd x v reducesTo_S1024x1024x64_S1024x64_d0 h_S_) main_v232 main_cst_53
  let main_cst_54 : FVec F S_ .f32 := constant S_ .f32 0x44800000#32
  let main_v234 : FVec F S1024x64 .f32 := broadcastInDim S1024x64 ![] bcast_S_S1024x64 main_cst_54
  let main_v235 : FVec F S1024x64 .f32 := Host.divf main_v233 main_v234
  let main_v236 : FVec F S1024x64 .f32 := addf main_v181 main_v235
  let main_v237 : FVec F S1x1024x64 .f32 := broadcastInDim S1x1024x64 ![1, 2] bcast_S1024x64_S1x1024x64_1_2 main_v236
  let main_v238 : FVec F S1024x1024x64 .f32 := broadcastInDim S1024x1024x64 ![0, 1, 2] bcast_S1024x1x64_S1024x1024x64_0_1_2 main_v16
  let main_v239 : FVec F S1024x1024x64 .f32 := broadcastInDim S1024x1024x64 ![0, 1, 2] bcast_S1x1024x64_S1024x1024x64_0_1_2 main_v237
  let main_v240 : FVec F S1024x1024x64 .f32 := subf main_v238 main_v239
  let main_v241 : FVec F S1024x1024x64 .f32 := mulf main_v240 main_v240
  let main_cst_55 : FVec F S_ .f32 := constant S_ .f32 0x00000000#32
  let main_v242 : FVec F S1024x1024 .f32 := (fun x v => Host.reduceAdd x v reducesTo_S1024x1024x64_S1024x1024_d2 h_S_) main_v241 main_cst_55
  let main_cst_56 : FVec F S_ .f32 := constant S_ .f32 0x7F800000#32
  let main_v243 : FVec F S1024 .f32 := (fun x v => Host.reduce FloatOps.minimumf x v reducesTo_S1024x1024_S1024_d1 h_S_) main_v242 main_cst_56
  let main_v244 : FVec F S1024x1 .f32 := broadcastInDim S1024x1 ![0] bcast_S1024_S1024x1_0 main_v243
  let main_v245 : FVec F S1024x1024 .f32 := broadcastInDim S1024x1024 ![0, 1] bcast_S1024x1_S1024x1024_0_1 main_v244
  let main_v246 : IVec S1024x1024 1 := cmpf .oeq main_v242 main_v245
  let main_v247 : IVec S1024x1024 32 := (extui 32 · natLt_1_32) main_v246
  let main_c_57 : IVec S_ 32 := constantI S_ 32 0#32
  let main_v248 : IVec S1024 32 := (fun x v => Host.reduce IntOp.addi x v reducesTo_S1024x1024_S1024_d1 h_S_) main_v247 main_c_57
  let main_c_58 : IVec S_ 32 := constantI S_ 32 1#32
  let main_v249 : IVec S1024 32 := broadcastInDim S1024 ![] bcast_S_S1024 main_c_58
  let main_v250 : IVec S1024 1 := cmpi .eq main_v248 main_v249
  fn_part13 (F := F) main_arg2 main_v11 main_v14 main_v15 main_v16 main_v30 main_v85 main_v140 main_v195 main_v236 main_v242 main_v250

def fn_part11 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v85 : IVec S1024 1) (main_v140 : IVec S1024 1) (main_v181 : FVec F S1024x64 .f32) (main_v195 : IVec S1024 1) (main_v211 : IVec S1024x1024x1 32) (main_v212 : FVec F S1024x1024x1 .f32) : IVec S1024x64 1 × IVec S1024x64 1 × IVec S1024x2 1 × IVec S1024 1 × IVec S1024 1 × IVec S1024 1 × IVec S1024 1 × IVec S1024 1 :=
  let main_cst_49 : FVec F S_ .f32 := constant S_ .f32 0x4113088C#32
  let main_v213 : FVec F S1024x1024x1 .f32 := broadcastInDim S1024x1024x1 ![] bcast_S_S1024x1024x1 main_cst_49
  let main_v214 : FVec F S1024x1024x1 .f32 := subf main_v213 main_v212
  let main_v215 : FVec F S1024x1024x1 .f32 := Host.sign main_v214
  let main_v216 : FVec F S1024x1024x1 .f32 := fn_relu (F := F) main_v215
  let main_v217 : FVec F S1024x1024x1 .f32 := sitofp .f32 main_v211
  let main_cst_50 : FVec F S_ .f32 := constant S_ .f32 0xBF000000#32
  let main_v218 : FVec F S1024x1024x1 .f32 := broadcastInDim S1024x1024x1 ![] bcast_S_S1024x1024x1 main_cst_50
  let main_v219 : FVec F S1024x1024x1 .f32 := mulf main_v218 main_v217
  let main_cst_51 : FVec F S_ .f32 := constant S_ .f32 0x4113088C#32
  let main_v220 : FVec F S1024x1024x1 .f32 := broadcastInDim S1024x1024x1 ![] bcast_S_S1024x1024x1 main_cst_51
  let main_v221 : FVec F S1024x1024x1 .f32 := Host.divf main_v219 main_v220
  let main_v222 : FVec F S1024x1024x1 .f32 := Host.exp main_v221
  let main_cst_52 : FVec F S_ .f32 := constant S_ .f32 0x3D60CB12#32
  let main_v223 : FVec F S1024x1024x1 .f32 := broadcastInDim S1024x1024x1 ![] bcast_S_S1024x1024x1 main_cst_52
  let main_v224 : FVec F S1024x1024x1 .f32 := mulf main_v223 main_v222
  let main_v225 : FVec F S1024x1024x1 .f32 := mulf main_v224 main_v216
  let main_v226 : FVec F S1x1024x64 .f32 := broadcastInDim S1x1024x64 ![1, 2] bcast_S1024x64_S1x1024x64_1_2 main_v181
  let main_v227 : FVec F S1024x1024x64 .f32 := broadcastInDim S1024x1024x64 ![0, 1, 2] bcast_S1024x1x64_S1024x1024x64_0_1_2 main_v16
  let main_v228 : FVec F S1024x1024x64 .f32 := broadcastInDim S1024x1024x64 ![0, 1, 2] bcast_S1x1024x64_S1024x1024x64_0_1_2 main_v226
  let main_v229 : FVec F S1024x1024x64 .f32 := subf main_v227 main_v228
  let main_v230 : FVec F S1024x1024x1 .f32 := id main_v225
  let main_v231 : FVec F S1024x1024x64 .f32 := broadcastInDim S1024x1024x64 ![0, 1, 2] bcast_S1024x1024x1_S1024x1024x64_0_1_2 main_v230
  let main_v232 : FVec F S1024x1024x64 .f32 := mulf main_v231 main_v229
  fn_part12 (F := F) main_arg2 main_v11 main_v14 main_v15 main_v16 main_v30 main_v85 main_v140 main_v181 main_v195 main_v232

def fn_part10 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v85 : IVec S1024 1) (main_v140 : IVec S1024 1) (main_v181 : FVec F S1024x64 .f32) (main_v187 : FVec F S1024x1024 .f32) (main_v192 : IVec S1024x1024 32) (main_c_44 : IVec S_ 32) : IVec S1024x64 1 × IVec S1024x64 1 × IVec S1024x2 1 × IVec S1024 1 × IVec S1024 1 × IVec S1024 1 × IVec S1024 1 × IVec S1024 1 :=
  let main_v193 : IVec S1024 32 := (fun x v => Host.reduce IntOp.addi x v reducesTo_S1024x1024_S1024_d1 h_S_) main_v192 main_c_44
  let main_c_45 : IVec S_ 32 := constantI S_ 32 1#32
  let main_v194 : IVec S1024 32 := broadcastInDim S1024 ![] bcast_S_S1024 main_c_45
  let main_v195 : IVec S1024 1 := cmpi .eq main_v193 main_v194
  let main_v196 : IVec S1024 32 := fn_argmin (F := F) main_v187
  let main_c_46 : IVec S_ 32 := constantI S_ 32 0#32
  let main_v197 : IVec S1024 32 := broadcastInDim S1024 ![] bcast_S_S1024 main_c_46
  let main_v198 : IVec S1024 1 := cmpi .slt main_v196 main_v197
  let main_c_47 : IVec S_ 32 := constantI S_ 32 1024#32
  let main_v199 : IVec S1024 32 := broadcastInDim S1024 ![] bcast_S_S1024 main_c_47
  let main_v200 : IVec S1024 32 := addi main_v196 main_v199
  let main_v201 : IVec S1024 32 := select main_v198 main_v200 main_v196
  let main_v202 : IVec S1024x1 32 := broadcastInDim S1024x1 ![0] bcast_S1024_S1024x1_0 main_v201
  let main_v203 : IVec S1024x2 32 := (fun x i => Host.gather gather_S1024x2_S1024x1_S1024x2_1_0_n_n_0_1_12 x i) main_arg2 main_v202
  let main_v204 : IVec S1024x1x2 32 := broadcastInDim S1024x1x2 ![0, 2] bcast_S1024x2_S1024x1x2_0_2 main_v203
  let main_v205 : IVec S1x1024x2 32 := broadcastInDim S1x1024x2 ![1, 2] bcast_S1024x2_S1x1024x2_1_2 main_arg2
  let main_v206 : IVec S1024x1024x2 32 := broadcastInDim S1024x1024x2 ![0, 1, 2] bcast_S1x1024x2_S1024x1024x2_0_1_2 main_v205
  let main_v207 : IVec S1024x1024x2 32 := broadcastInDim S1024x1024x2 ![0, 1, 2] bcast_S1024x1x2_S1024x1024x2_0_1_2 main_v204
  let main_v208 : IVec S1024x1024x2 32 := subi main_v206 main_v207
  let main_v209 : IVec S1024x1024x2 32 := muli main_v208 main_v208
  let main_c_48 : IVec S_ 32 := constantI S_ 32 0#32
  let main_v210 : IVec S1024x1024 32 := (fun x v => Host.reduce IntOp.addi x v reducesTo_S1024x1024x2_S1024x1024_d2 h_S_) main_v209 main_c_48
  let main_v211 : IVec S1024x1024x1 32 := broadcastInDim S1024x1024x1 ![0, 1] bcast_S1024x1024_S1024x1024x1_0_1 main_v210
  let main_v212 : FVec F S1024x1024x1 .f32 := sitofp .f32 main_v211
  fn_part11 (F := F) main_arg2 main_v11 main_v14 main_v15 main_v16 main_v30 main_v85 main_v140 main_v181 main_v195 main_v211 main_v212

def fn_part9 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v85 : IVec S1024 1) (main_v126 : FVec F S1024x64 .f32) (main_v140 : IVec S1024 1) (main_v170 : FVec F S1024x1024x1 .f32) (main_v172 : FVec F S1024x1024x64 .f32) (main_v173 : FVec F S1024x1024x64 .f32) : IVec S1024x64 1 × IVec S1024x64 1 × IVec S1024x2 1 × IVec S1024 1 × IVec S1024 1 × IVec S1024 1 × IVec S1024 1 × IVec S1024 1 :=
  let main_v174 : FVec F S1024x1024x64 .f32 := subf main_v172 main_v173
  let main_v175 : FVec F S1024x1024x1 .f32 := id main_v170
  let main_v176 : FVec F S1024x1024x64 .f32 := broadcastInDim S1024x1024x64 ![0, 1, 2] bcast_S1024x1024x1_S1024x1024x64_0_1_2 main_v175
  let main_v177 : FVec F S1024x1024x64 .f32 := mulf main_v176 main_v174
  let main_cst_40 : FVec F S_ .f32 := constant S_ .f32 0x00000000#32
  let main_v178 : FVec F S1024x64 .f32 := (fun x v => Host.reduceAdd x v reducesTo_S1024x1024x64_S1024x64_d0 h_S_) main_v177 main_cst_40
  let main_cst_41 : FVec F S_ .f32 := constant S_ .f32 0x44800000#32
  let main_v179 : FVec F S1024x64 .f32 := broadcastInDim S1024x64 ![] bcast_S_S1024x64 main_cst_41
  let main_v180 : FVec F S1024x64 .f32 := Host.divf main_v178 main_v179
  let main_v181 : FVec F S1024x64 .f32 := addf main_v126 main_v180
  let main_v182 : FVec F S1x1024x64 .f32 := broadcastInDim S1x1024x64 ![1, 2] bcast_S1024x64_S1x1024x64_1_2 main_v181
  let main_v183 : FVec F S1024x1024x64 .f32 := broadcastInDim S1024x1024x64 ![0, 1, 2] bcast_S1024x1x64_S1024x1024x64_0_1_2 main_v16
  let main_v184 : FVec F S1024x1024x64 .f32 := broadcastInDim S1024x1024x64 ![0, 1, 2] bcast_S1x1024x64_S1024x1024x64_0_1_2 main_v182
  let main_v185 : FVec F S1024x1024x64 .f32 := subf main_v183 main_v184
  let main_v186 : FVec F S1024x1024x64 .f32 := mulf main_v185 main_v185
  let main_cst_42 : FVec F S_ .f32 := constant S_ .f32 0x00000000#32
  let main_v187 : FVec F S1024x1024 .f32 := (fun x v => Host.reduceAdd x v reducesTo_S1024x1024x64_S1024x1024_d2 h_S_) main_v186 main_cst_42
  let main_cst_43 : FVec F S_ .f32 := constant S_ .f32 0x7F800000#32
  let main_v188 : FVec F S1024 .f32 := (fun x v => Host.reduce FloatOps.minimumf x v reducesTo_S1024x1024_S1024_d1 h_S_) main_v187 main_cst_43
  let main_v189 : FVec F S1024x1 .f32 := broadcastInDim S1024x1 ![0] bcast_S1024_S1024x1_0 main_v188
  let main_v190 : FVec F S1024x1024 .f32 := broadcastInDim S1024x1024 ![0, 1] bcast_S1024x1_S1024x1024_0_1 main_v189
  let main_v191 : IVec S1024x1024 1 := cmpf .oeq main_v187 main_v190
  let main_v192 : IVec S1024x1024 32 := (extui 32 · natLt_1_32) main_v191
  let main_c_44 : IVec S_ 32 := constantI S_ 32 0#32
  fn_part10 (F := F) main_arg2 main_v11 main_v14 main_v15 main_v16 main_v30 main_v85 main_v140 main_v181 main_v187 main_v192 main_c_44

def fn_part8 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v85 : IVec S1024 1) (main_v126 : FVec F S1024x64 .f32) (main_v140 : IVec S1024 1) (main_v154 : IVec S1024x1024x2 32) : IVec S1024x64 1 × IVec S1024x64 1 × IVec S1024x2 1 × IVec S1024 1 × IVec S1024 1 × IVec S1024 1 × IVec S1024 1 × IVec S1024 1 :=
  let main_c_35 : IVec S_ 32 := constantI S_ 32 0#32
  let main_v155 : IVec S1024x1024 32 := (fun x v => Host.reduce IntOp.addi x v reducesTo_S1024x1024x2_S1024x1024_d2 h_S_) main_v154 main_c_35
  let main_v156 : IVec S1024x1024x1 32 := broadcastInDim S1024x1024x1 ![0, 1] bcast_S1024x1024_S1024x1024x1_0_1 main_v155
  let main_v157 : FVec F S1024x1024x1 .f32 := sitofp .f32 main_v156
  let main_cst_36 : FVec F S_ .f32 := constant S_ .f32 0x41DEDC67#32
  let main_v158 : FVec F S1024x1024x1 .f32 := broadcastInDim S1024x1024x1 ![] bcast_S_S1024x1024x1 main_cst_36
  let main_v159 : FVec F S1024x1024x1 .f32 := subf main_v158 main_v157
  let main_v160 : FVec F S1024x1024x1 .f32 := Host.sign main_v159
  let main_v161 : FVec F S1024x1024x1 .f32 := fn_relu (F := F) main_v160
  let main_v162 : FVec F S1024x1024x1 .f32 := sitofp .f32 main_v156
  let main_cst_37 : FVec F S_ .f32 := constant S_ .f32 0xBF000000#32
  let main_v163 : FVec F S1024x1024x1 .f32 := broadcastInDim S1024x1024x1 ![] bcast_S_S1024x1024x1 main_cst_37
  let main_v164 : FVec F S1024x1024x1 .f32 := mulf main_v163 main_v162
  let main_cst_38 : FVec F S_ .f32 := constant S_ .f32 0x41DEDC67#32
  let main_v165 : FVec F S1024x1024x1 .f32 := broadcastInDim S1024x1024x1 ![] bcast_S_S1024x1024x1 main_cst_38
  let main_v166 : FVec F S1024x1024x1 .f32 := Host.divf main_v164 main_v165
  let main_v167 : FVec F S1024x1024x1 .f32 := Host.exp main_v166
  let main_cst_39 : FVec F S_ .f32 := constant S_ .f32 0x3D894813#32
  let main_v168 : FVec F S1024x1024x1 .f32 := broadcastInDim S1024x1024x1 ![] bcast_S_S1024x1024x1 main_cst_39
  let main_v169 : FVec F S1024x1024x1 .f32 := mulf main_v168 main_v167
  let main_v170 : FVec F S1024x1024x1 .f32 := mulf main_v169 main_v161
  let main_v171 : FVec F S1x1024x64 .f32 := broadcastInDim S1x1024x64 ![1, 2] bcast_S1024x64_S1x1024x64_1_2 main_v126
  let main_v172 : FVec F S1024x1024x64 .f32 := broadcastInDim S1024x1024x64 ![0, 1, 2] bcast_S1024x1x64_S1024x1024x64_0_1_2 main_v16
  let main_v173 : FVec F S1024x1024x64 .f32 := broadcastInDim S1024x1024x64 ![0, 1, 2] bcast_S1x1024x64_S1024x1024x64_0_1_2 main_v171
  fn_part9 (F := F) main_arg2 main_v11 main_v14 main_v15 main_v16 main_v30 main_v85 main_v126 main_v140 main_v170 main_v172 main_v173

def fn_part7 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v85 : IVec S1024 1) (main_v126 : FVec F S1024x64 .f32) (main_v132 : FVec F S1024x1024 .f32) (main_v134 : FVec F S1024x1 .f32) : IVec S1024x64 1 × IVec S1024x64 1 × IVec S1024x2 1 × IVec S1024 1 × IVec S1024 1 × IVec S1024 1 × IVec S1024 1 × IVec S1024 1 :=
  let main_v135 : FVec F S1024x1024 .f32 := broadcastInDim S1024x1024 ![0, 1] bcast_S1024x1_S1024x1024_0_1 main_v134
  let main_v136 : IVec S1024x1024 1 := cmpf .oeq main_v132 main_v135
  let main_v137 : IVec S1024x1024 32 := (extui 32 · natLt_1_32) main_v136
  let main_c_31 : IVec S_ 32 := constantI S_ 32 0#32
  let main_v138 : IVec S1024 32 := (fun x v => Host.reduce IntOp.addi x v reducesTo_S1024x1024_S1024_d1 h_S_) main_v137 main_c_31
  let main_c_32 : IVec S_ 32 := constantI S_ 32 1#32
  let main_v139 : IVec S1024 32 := broadcastInDim S1024 ![] bcast_S_S1024 main_c_32
  let main_v140 : IVec S1024 1 := cmpi .eq main_v138 main_v139
  let main_v141 : IVec S1024 32 := fn_argmin (F := F) main_v132
  let main_c_33 : IVec S_ 32 := constantI S_ 32 0#32
  let main_v142 : IVec S1024 32 := broadcastInDim S1024 ![] bcast_S_S1024 main_c_33
  let main_v143 : IVec S1024 1 := cmpi .slt main_v141 main_v142
  let main_c_34 : IVec S_ 32 := constantI S_ 32 1024#32
  let main_v144 : IVec S1024 32 := broadcastInDim S1024 ![] bcast_S_S1024 main_c_34
  let main_v145 : IVec S1024 32 := addi main_v141 main_v144
  let main_v146 : IVec S1024 32 := select main_v143 main_v145 main_v141
  let main_v147 : IVec S1024x1 32 := broadcastInDim S1024x1 ![0] bcast_S1024_S1024x1_0 main_v146
  let main_v148 : IVec S1024x2 32 := (fun x i => Host.gather gather_S1024x2_S1024x1_S1024x2_1_0_n_n_0_1_12 x i) main_arg2 main_v147
  let main_v149 : IVec S1024x1x2 32 := broadcastInDim S1024x1x2 ![0, 2] bcast_S1024x2_S1024x1x2_0_2 main_v148
  let main_v150 : IVec S1x1024x2 32 := broadcastInDim S1x1024x2 ![1, 2] bcast_S1024x2_S1x1024x2_1_2 main_arg2
  let main_v151 : IVec S1024x1024x2 32 := broadcastInDim S1024x1024x2 ![0, 1, 2] bcast_S1x1024x2_S1024x1024x2_0_1_2 main_v150
  let main_v152 : IVec S1024x1024x2 32 := broadcastInDim S1024x1024x2 ![0, 1, 2] bcast_S1024x1x2_S1024x1024x2_0_1_2 main_v149
  let main_v153 : IVec S1024x1024x2 32 := subi main_v151 main_v152
  let main_v154 : IVec S1024x1024x2 32 := muli main_v153 main_v153
  fn_part8 (F := F) main_arg2 main_v11 main_v14 main_v15 main_v16 main_v30 main_v85 main_v126 main_v140 main_v154

def fn_part6 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v71 : FVec F S1024x64 .f32) (main_v85 : IVec S1024 1) (main_v106 : FVec F S1024x1024x1 .f32) (main_v114 : FVec F S1024x1024x1 .f32) : IVec S1024x64 1 × IVec S1024x64 1 × IVec S1024x2 1 × IVec S1024 1 × IVec S1024 1 × IVec S1024 1 × IVec S1024 1 × IVec S1024 1 :=
  let main_v115 : FVec F S1024x1024x1 .f32 := mulf main_v114 main_v106
  let main_v116 : FVec F S1x1024x64 .f32 := broadcastInDim S1x1024x64 ![1, 2] bcast_S1024x64_S1x1024x64_1_2 main_v71
  let main_v117 : FVec F S1024x1024x64 .f32 := broadcastInDim S1024x1024x64 ![0, 1, 2] bcast_S1024x1x64_S1024x1024x64_0_1_2 main_v16
  let main_v118 : FVec F S1024x1024x64 .f32 := broadcastInDim S1024x1024x64 ![0, 1, 2] bcast_S1x1024x64_S1024x1024x64_0_1_2 main_v116
  let main_v119 : FVec F S1024x1024x64 .f32 := subf main_v117 main_v118
  let main_v120 : FVec F S1024x1024x1 .f32 := id main_v115
  let main_v121 : FVec F S1024x1024x64 .f32 := broadcastInDim S1024x1024x64 ![0, 1, 2] bcast_S1024x1024x1_S1024x1024x64_0_1_2 main_v120
  let main_v122 : FVec F S1024x1024x64 .f32 := mulf main_v121 main_v119
  let main_cst_27 : FVec F S_ .f32 := constant S_ .f32 0x00000000#32
  let main_v123 : FVec F S1024x64 .f32 := (fun x v => Host.reduceAdd x v reducesTo_S1024x1024x64_S1024x64_d0 h_S_) main_v122 main_cst_27
  let main_cst_28 : FVec F S_ .f32 := constant S_ .f32 0x44800000#32
  let main_v124 : FVec F S1024x64 .f32 := broadcastInDim S1024x64 ![] bcast_S_S1024x64 main_cst_28
  let main_v125 : FVec F S1024x64 .f32 := Host.divf main_v123 main_v124
  let main_v126 : FVec F S1024x64 .f32 := addf main_v71 main_v125
  let main_v127 : FVec F S1x1024x64 .f32 := broadcastInDim S1x1024x64 ![1, 2] bcast_S1024x64_S1x1024x64_1_2 main_v126
  let main_v128 : FVec F S1024x1024x64 .f32 := broadcastInDim S1024x1024x64 ![0, 1, 2] bcast_S1024x1x64_S1024x1024x64_0_1_2 main_v16
  let main_v129 : FVec F S1024x1024x64 .f32 := broadcastInDim S1024x1024x64 ![0, 1, 2] bcast_S1x1024x64_S1024x1024x64_0_1_2 main_v127
  let main_v130 : FVec F S1024x1024x64 .f32 := subf main_v128 main_v129
  let main_v131 : FVec F S1024x1024x64 .f32 := mulf main_v130 main_v130
  let main_cst_29 : FVec F S_ .f32 := constant S_ .f32 0x00000000#32
  let main_v132 : FVec F S1024x1024 .f32 := (fun x v => Host.reduceAdd x v reducesTo_S1024x1024x64_S1024x1024_d2 h_S_) main_v131 main_cst_29
  let main_cst_30 : FVec F S_ .f32 := constant S_ .f32 0x7F800000#32
  let main_v133 : FVec F S1024 .f32 := (fun x v => Host.reduce FloatOps.minimumf x v reducesTo_S1024x1024_S1024_d1 h_S_) main_v132 main_cst_30
  let main_v134 : FVec F S1024x1 .f32 := broadcastInDim S1024x1 ![0] bcast_S1024_S1024x1_0 main_v133
  fn_part7 (F := F) main_arg2 main_v11 main_v14 main_v15 main_v16 main_v30 main_v85 main_v126 main_v132 main_v134

def fn_part5 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v71 : FVec F S1024x64 .f32) (main_v85 : IVec S1024 1) (main_v94 : IVec S1024x1x2 32) (main_v95 : IVec S1x1024x2 32) : IVec S1024x64 1 × IVec S1024x64 1 × IVec S1024x2 1 × IVec S1024 1 × IVec S1024 1 × IVec S1024 1 × IVec S1024 1 × IVec S1024 1 :=
  let main_v96 : IVec S1024x1024x2 32 := broadcastInDim S1024x1024x2 ![0, 1, 2] bcast_S1x1024x2_S1024x1024x2_0_1_2 main_v95
  let main_v97 : IVec S1024x1024x2 32 := broadcastInDim S1024x1024x2 ![0, 1, 2] bcast_S1024x1x2_S1024x1024x2_0_1_2 main_v94
  let main_v98 : IVec S1024x1024x2 32 := subi main_v96 main_v97
  let main_v99 : IVec S1024x1024x2 32 := muli main_v98 main_v98
  let main_c_22 : IVec S_ 32 := constantI S_ 32 0#32
  let main_v100 : IVec S1024x1024 32 := (fun x v => Host.reduce IntOp.addi x v reducesTo_S1024x1024x2_S1024x1024_d2 h_S_) main_v99 main_c_22
  let main_v101 : IVec S1024x1024x1 32 := broadcastInDim S1024x1024x1 ![0, 1] bcast_S1024x1024_S1024x1024x1_0_1 main_v100
  let main_v102 : FVec F S1024x1024x1 .f32 := sitofp .f32 main_v101
  let main_cst_23 : FVec F S_ .f32 := constant S_ .f32 0x42A8E5A3#32
  let main_v103 : FVec F S1024x1024x1 .f32 := broadcastInDim S1024x1024x1 ![] bcast_S_S1024x1024x1 main_cst_23
  let main_v104 : FVec F S1024x1024x1 .f32 := subf main_v103 main_v102
  let main_v105 : FVec F S1024x1024x1 .f32 := Host.sign main_v104
  let main_v106 : FVec F S1024x1024x1 .f32 := fn_relu (F := F) main_v105
  let main_v107 : FVec F S1024x1024x1 .f32 := sitofp .f32 main_v101
  let main_cst_24 : FVec F S_ .f32 := constant S_ .f32 0xBF000000#32
  let main_v108 : FVec F S1024x1024x1 .f32 := broadcastInDim S1024x1024x1 ![] bcast_S_S1024x1024x1 main_cst_24
  let main_v109 : FVec F S1024x1024x1 .f32 := mulf main_v108 main_v107
  let main_cst_25 : FVec F S_ .f32 := constant S_ .f32 0x42A8E5A3#32
  let main_v110 : FVec F S1024x1024x1 .f32 := broadcastInDim S1024x1024x1 ![] bcast_S_S1024x1024x1 main_cst_25
  let main_v111 : FVec F S1024x1024x1 .f32 := Host.divf main_v109 main_v110
  let main_v112 : FVec F S1024x1024x1 .f32 := Host.exp main_v111
  let main_cst_26 : FVec F S_ .f32 := constant S_ .f32 0x3DA7AD12#32
  let main_v113 : FVec F S1024x1024x1 .f32 := broadcastInDim S1024x1024x1 ![] bcast_S_S1024x1024x1 main_cst_26
  let main_v114 : FVec F S1024x1024x1 .f32 := mulf main_v113 main_v112
  fn_part6 (F := F) main_arg2 main_v11 main_v14 main_v15 main_v16 main_v30 main_v71 main_v85 main_v106 main_v114

def fn_part4 {F : FTy → Type} [FloatOps F] (main_arg2 : IVec S1024x2 32) (main_v11 : IVec S1024x64 1) (main_v14 : IVec S1024x64 1) (main_v15 : IVec S1024x2 1) (main_v16 : FVec F S1024x1x64 .f32) (main_v30 : IVec S1024 1) (main_v71 : FVec F S1024x64 .f32) (main_v76 : FVec F S1024x1024x64 .f32) (main_cst_16 : FVec F S_ .f32) : IVec S1024x64 1 × IVec S1024x64 1 × IVec S1024x2 1 × IVec S1024 1 × IVec S1024 1 × IVec S1024 1 × IVec S1024 1 × IVec S1024 1 :=
  let main_v77 : FVec F S1024x1024 .f32 := (fun x v => Host.reduceAdd x v reducesTo_S1024x1024x64_S1024x1024_d2 h_S_) main_v76 main_cst_16
  let main_cst_17 : FVec F S_ .f32 := constant S_ .f32 0x7F800000#32
  let main_v78 : FVec F S1024 .f32 := (fun x v => Host.reduce FloatOps.minimumf x v reducesTo_S1024x1024_S1024_d1 h_S_) main_v77 main_cst_17
  let main_v79 : FVec F S1024x1 .f32 := broadcastInDim S1024x1 ![0] bcast_S1024_S1024x1_0 main_v78
  let main_v80 : FVec F S1024x1024 .f32 := broadcastInDim S1024x1024 ![0, 1] bcast_S1024x1_S1024x1024_0_1 main_v79
  let main_v81 : IVec S1024x1024 1 := cmpf .oeq main_v77 main_v80
  let main_v82 : IVec S1024x1024 32 := (extui 32 · natLt_1_32) main_v81
  let main_c_18 : IVec S_ 32 := constantI S_ 32 0#32
  let main_v83 : IVec S1024 32 := (fun x v => Host.reduce IntOp.addi x v reducesTo_S1024x1024_S1024_d1 h_S_) main_v82 main_c_18
  let main_c_19 : IVec S_ 32 := constantI S_ 32 1#32
  let main_v84 : IVec S1024 32 := broadcastInDim S1024 ![] bcast_S_S1024 main_c_19
  let main_v85 : IVec S1024 1 := cmpi .eq main_v83 main_v84
  let main_v86 : IVec S1024 32 := fn_argmin (F := F) main_v77
  let main_c_20 : IVec S_ 32 := constantI S_ 32 0#32
  let main_v87 : IVec S1024 32 := broadcastInDim S1024 ![] bcast_S_S1024 main_c_20
  let main_v88 : IVec S1024 1 := cmpi .slt main_v86 main_v87
  let main_c_21 : IVec S_ 32 := constantI S_ 32 1024#32
  let main_v89 : IVec S1024 32 := broadcastInDim S1024 ![] bcast_S_S1024 main_c_21
  let main_v90 : IVec S1024 32 := addi main_v86 main_v89
  let main_v91 : IVec S1024 32 := select main_v88 main_v90 main_v86
  let main_v92 : IVec S1024x1 32 := broadcastInDim S1024x1 ![0] bcast_S1024_S1024x1_0 main_v91
  let main_v93 : IVec S1024x2 32 := (fun x i => Host.gather gather_S1024x2_S1024x1_S1024x2_1_0_n_n_0_1_12 x i) main_arg2 main_v92
  let main_v94 : IVec S1024x1x2 32 := broadcastInDim S1024x1x2 ![0, 2] bcast_S1024x2_S1024x1x2_0_2 main_v93
  let main_v95 : IVec S1x1024x2 32 := broadcastInDim S1x1024x2 ![1, 2] bcast_S1024x2_S1x1024x2_1_2 main_arg2
  fn_part5 (F := F) main_arg2 main_v11 main_v14 main_v15 main_v16 main_v30 main_v71 main_v85 main_v94 main_v95

def fn_part3 {F : FTy → Type} [FloatOps F] (main_arg1 : FVec F S1024x64 .f32) (main_arg2 : IVec S1024x2 32) (main_v11 : IVec S1024x64 1) (main_v14 : IVec S1024x64 1) (main_v15 : IVec S1024x2 1) (main_v16 : FVec F S1024x1x64 .f32) (main_v30 : IVec S1024 1) (main_v51 : FVec F S1024x1024x1 .f32) (main_v56 : FVec F S1024x1024x1 .f32) : IVec S1024x64 1 × IVec S1024x64 1 × IVec S1024x2 1 × IVec S1024 1 × IVec S1024 1 × IVec S1024 1 × IVec S1024 1 × IVec S1024 1 :=
  let main_v57 : FVec F S1024x1024x1 .f32 := Host.exp main_v56
  let main_cst_13 : FVec F S_ .f32 := constant S_ .f32 0x3DCCCCCD#32
  let main_v58 : FVec F S1024x1024x1 .f32 := broadcastInDim S1024x1024x1 ![] bcast_S_S1024x1024x1 main_cst_13
  let main_v59 : FVec F S1024x1024x1 .f32 := mulf main_v58 main_v57
  let main_v60 : FVec F S1024x1024x1 .f32 := mulf main_v59 main_v51
  let main_v61 : FVec F S1x1024x64 .f32 := broadcastInDim S1x1024x64 ![1, 2] bcast_S1024x64_S1x1024x64_1_2 main_arg1
  let main_v62 : FVec F S1024x1024x64 .f32 := broadcastInDim S1024x1024x64 ![0, 1, 2] bcast_S1024x1x64_S1024x1024x64_0_1_2 main_v16
  let main_v63 : FVec F S1024x1024x64 .f32 := broadcastInDim S1024x1024x64 ![0, 1, 2] bcast_S1x1024x64_S1024x1024x64_0_1_2 main_v61
  let main_v64 : FVec F S1024x1024x64 .f32 := subf main_v62 main_v63
  let main_v65 : FVec F S1024x1024x1 .f32 := id main_v60
  let main_v66 : FVec F S1024x1024x64 .f32 := broadcastInDim S1024x1024x64 ![0, 1, 2] bcast_S1024x1024x1_S1024x1024x64_0_1_2 main_v65
  let main_v67 : FVec F S1024x1024x64 .f32 := mulf main_v66 main_v64
  let main_cst_14 : FVec F S_ .f32 := constant S_ .f32 0x00000000#32
  let main_v68 : FVec F S1024x64 .f32 := (fun x v => Host.reduceAdd x v reducesTo_S1024x1024x64_S1024x64_d0 h_S_) main_v67 main_cst_14
  let main_cst_15 : FVec F S_ .f32 := constant S_ .f32 0x44800000#32
  let main_v69 : FVec F S1024x64 .f32 := broadcastInDim S1024x64 ![] bcast_S_S1024x64 main_cst_15
  let main_v70 : FVec F S1024x64 .f32 := Host.divf main_v68 main_v69
  let main_v71 : FVec F S1024x64 .f32 := addf main_arg1 main_v70
  let main_v72 : FVec F S1x1024x64 .f32 := broadcastInDim S1x1024x64 ![1, 2] bcast_S1024x64_S1x1024x64_1_2 main_v71
  let main_v73 : FVec F S1024x1024x64 .f32 := broadcastInDim S1024x1024x64 ![0, 1, 2] bcast_S1024x1x64_S1024x1024x64_0_1_2 main_v16
  let main_v74 : FVec F S1024x1024x64 .f32 := broadcastInDim S1024x1024x64 ![0, 1, 2] bcast_S1x1024x64_S1024x1024x64_0_1_2 main_v72
  let main_v75 : FVec F S1024x1024x64 .f32 := subf main_v73 main_v74
  let main_v76 : FVec F S1024x1024x64 .f32 := mulf main_v75 main_v75
  let main_cst_16 : FVec F S_ .f32 := constant S_ .f32 0x00000000#32
  fn_part4 (F := F) main_arg2 main_v11 main_v14 main_v15 main_v16 main_v30 main_v71 main_v76 main_cst_16

def fn_part2 {F : FTy → Type} [FloatOps F] (main_arg1 : FVec F S1024x64 .f32) (main_arg2 : IVec S1024x2 32) (main_v11 : IVec S1024x64 1) (main_v14 : IVec S1024x64 1) (main_v15 : IVec S1024x2 1) (main_v16 : FVec F S1024x1x64 .f32) (main_v30 : IVec S1024 1) (main_v36 : IVec S1024 32) : IVec S1024x64 1 × IVec S1024x64 1 × IVec S1024x2 1 × IVec S1024 1 × IVec S1024 1 × IVec S1024 1 × IVec S1024 1 × IVec S1024 1 :=
  let main_v37 : IVec S1024x1 32 := broadcastInDim S1024x1 ![0] bcast_S1024_S1024x1_0 main_v36
  let main_v38 : IVec S1024x2 32 := (fun x i => Host.gather gather_S1024x2_S1024x1_S1024x2_1_0_n_n_0_1_12 x i) main_arg2 main_v37
  let main_v39 : IVec S1024x1x2 32 := broadcastInDim S1024x1x2 ![0, 2] bcast_S1024x2_S1024x1x2_0_2 main_v38
  let main_v40 : IVec S1x1024x2 32 := broadcastInDim S1x1024x2 ![1, 2] bcast_S1024x2_S1x1024x2_1_2 main_arg2
  let main_v41 : IVec S1024x1024x2 32 := broadcastInDim S1024x1024x2 ![0, 1, 2] bcast_S1x1024x2_S1024x1024x2_0_1_2 main_v40
  let main_v42 : IVec S1024x1024x2 32 := broadcastInDim S1024x1024x2 ![0, 1, 2] bcast_S1024x1x2_S1024x1024x2_0_1_2 main_v39
  let main_v43 : IVec S1024x1024x2 32 := subi main_v41 main_v42
  let main_v44 : IVec S1024x1024x2 32 := muli main_v43 main_v43
  let main_c_9 : IVec S_ 32 := constantI S_ 32 0#32
  let main_v45 : IVec S1024x1024 32 := (fun x v => Host.reduce IntOp.addi x v reducesTo_S1024x1024x2_S1024x1024_d2 h_S_) main_v44 main_c_9
  let main_v46 : IVec S1024x1024x1 32 := broadcastInDim S1024x1024x1 ![0, 1] bcast_S1024x1024_S1024x1024x1_0_1 main_v45
  let main_v47 : FVec F S1024x1024x1 .f32 := sitofp .f32 main_v46
  let main_cst_10 : FVec F S_ .f32 := constant S_ .f32 0x43800000#32
  let main_v48 : FVec F S1024x1024x1 .f32 := broadcastInDim S1024x1024x1 ![] bcast_S_S1024x1024x1 main_cst_10
  let main_v49 : FVec F S1024x1024x1 .f32 := subf main_v48 main_v47
  let main_v50 : FVec F S1024x1024x1 .f32 := Host.sign main_v49
  let main_v51 : FVec F S1024x1024x1 .f32 := fn_relu (F := F) main_v50
  let main_v52 : FVec F S1024x1024x1 .f32 := sitofp .f32 main_v46
  let main_cst_11 : FVec F S_ .f32 := constant S_ .f32 0xBF000000#32
  let main_v53 : FVec F S1024x1024x1 .f32 := broadcastInDim S1024x1024x1 ![] bcast_S_S1024x1024x1 main_cst_11
  let main_v54 : FVec F S1024x1024x1 .f32 := mulf main_v53 main_v52
  let main_cst_12 : FVec F S_ .f32 := constant S_ .f32 0x43800000#32
  let main_v55 : FVec F S1024x1024x1 .f32 := broadcastInDim S1024x1024x1 ![] bcast_S_S1024x1024x1 main_cst_12
  let main_v56 : FVec F S1024x1024x1 .f32 := Host.divf main_v54 main_v55
  fn_part3 (F := F) main_arg1 main_arg2 main_v11 main_v14 main_v15 main_v16 main_v30 main_v51 main_v56

def fn_part1 {F : FTy → Type} [FloatOps F] (main_arg1 : FVec F S1024x64 .f32) (main_arg2 : IVec S1024x2 32) (main_v11 : IVec S1024x64 1) (main_v14 : IVec S1024x64 1) (main_v15 : IVec S1024x2 1) (main_v16 : FVec F S1024x1x64 .f32) (main_v17 : FVec F S1x1024x64 .f32) (main_v18 : FVec F S1024x1024x64 .f32) : IVec S1024x64 1 × IVec S1024x64 1 × IVec S1024x2 1 × IVec S1024 1 × IVec S1024 1 × IVec S1024 1 × IVec S1024 1 × IVec S1024 1 :=
  let main_v19 : FVec F S1024x1024x64 .f32 := broadcastInDim S1024x1024x64 ![0, 1, 2] bcast_S1x1024x64_S1024x1024x64_0_1_2 main_v17
  let main_v20 : FVec F S1024x1024x64 .f32 := subf main_v18 main_v19
  let main_v21 : FVec F S1024x1024x64 .f32 := mulf main_v20 main_v20
  let main_cst_3 : FVec F S_ .f32 := constant S_ .f32 0x00000000#32
  let main_v22 : FVec F S1024x1024 .f32 := (fun x v => Host.reduceAdd x v reducesTo_S1024x1024x64_S1024x1024_d2 h_S_) main_v21 main_cst_3
  let main_cst_4 : FVec F S_ .f32 := constant S_ .f32 0x7F800000#32
  let main_v23 : FVec F S1024 .f32 := (fun x v => Host.reduce FloatOps.minimumf x v reducesTo_S1024x1024_S1024_d1 h_S_) main_v22 main_cst_4
  let main_v24 : FVec F S1024x1 .f32 := broadcastInDim S1024x1 ![0] bcast_S1024_S1024x1_0 main_v23
  let main_v25 : FVec F S1024x1024 .f32 := broadcastInDim S1024x1024 ![0, 1] bcast_S1024x1_S1024x1024_0_1 main_v24
  let main_v26 : IVec S1024x1024 1 := cmpf .oeq main_v22 main_v25
  let main_v27 : IVec S1024x1024 32 := (extui 32 · natLt_1_32) main_v26
  let main_c_5 : IVec S_ 32 := constantI S_ 32 0#32
  let main_v28 : IVec S1024 32 := (fun x v => Host.reduce IntOp.addi x v reducesTo_S1024x1024_S1024_d1 h_S_) main_v27 main_c_5
  let main_c_6 : IVec S_ 32 := constantI S_ 32 1#32
  let main_v29 : IVec S1024 32 := broadcastInDim S1024 ![] bcast_S_S1024 main_c_6
  let main_v30 : IVec S1024 1 := cmpi .eq main_v28 main_v29
  let main_v31 : IVec S1024 32 := fn_argmin (F := F) main_v22
  let main_c_7 : IVec S_ 32 := constantI S_ 32 0#32
  let main_v32 : IVec S1024 32 := broadcastInDim S1024 ![] bcast_S_S1024 main_c_7
  let main_v33 : IVec S1024 1 := cmpi .slt main_v31 main_v32
  let main_c_8 : IVec S_ 32 := constantI S_ 32 1024#32
  let main_v34 : IVec S1024 32 := broadcastInDim S1024 ![] bcast_S_S1024 main_c_8
  let main_v35 : IVec S1024 32 := addi main_v31 main_v34
  let main_v36 : IVec S1024 32 := select main_v33 main_v35 main_v31
  fn_part2 (F := F) main_arg1 main_arg2 main_v11 main_v14 main_v15 main_v16 main_v30 main_v36

def fn {F : FTy → Type} [FloatOps F] (main_arg0 : FVec F S1024x64 .f32) (main_arg1 : FVec F S1024x64 .f32) (main_arg2 : IVec S1024x2 32) : IVec S1024x64 1 × IVec S1024x64 1 × IVec S1024x2 1 × IVec S1024 1 × IVec S1024 1 × IVec S1024 1 × IVec S1024 1 × IVec S1024 1 :=
  let main_v0 : IVec S1024x2 32 := iotaInDim S1024x2 32 0
  let main_v1 : IVec S1024x2 32 := iotaInDim S1024x2 32 1
  let main_c : IVec S_ 32 := constantI S_ 32 0#32
  let main_v2 : IVec S1024x2 32 := broadcastInDim S1024x2 ![] bcast_S_S1024x2 main_c
  let main_v3 : IVec S1024x2 1 := cmpi .eq main_v1 main_v2
  let main_c_0 : IVec S_ 32 := constantI S_ 32 5#32
  let main_v4 : IVec S1024x2 32 := broadcastInDim S1024x2 ![] bcast_S_S1024x2 main_c_0
  let main_v5 : IVec S1024x2 32 := Host.shrsi main_v0 main_v4
  let main_c_1 : IVec S_ 32 := constantI S_ 32 31#32
  let main_v6 : IVec S1024x2 32 := broadcastInDim S1024x2 ![] bcast_S_S1024x2 main_c_1
  let main_v7 : IVec S1024x2 32 := andi main_v0 main_v6
  let main_v8 : IVec S1024x2 32 := select main_v3 main_v5 main_v7
  let main_v9 : FVec F S1024x64 .f32 := Host.absf main_arg0
  let main_cst : FVec F S_ .f32 := constant S_ .f32 0x7F800000#32
  let main_v10 : FVec F S1024x64 .f32 := broadcastInDim S1024x64 ![] bcast_S_S1024x64 main_cst
  let main_v11 : IVec S1024x64 1 := cmpf .olt main_v9 main_v10
  let main_v12 : FVec F S1024x64 .f32 := Host.absf main_arg1
  let main_cst_2 : FVec F S_ .f32 := constant S_ .f32 0x7F800000#32
  let main_v13 : FVec F S1024x64 .f32 := broadcastInDim S1024x64 ![] bcast_S_S1024x64 main_cst_2
  let main_v14 : IVec S1024x64 1 := cmpf .olt main_v12 main_v13
  let main_v15 : IVec S1024x2 1 := cmpi .eq main_arg2 main_v8
  let main_v16 : FVec F S1024x1x64 .f32 := broadcastInDim S1024x1x64 ![0, 2] bcast_S1024x64_S1024x1x64_0_2 main_arg0
  let main_v17 : FVec F S1x1024x64 .f32 := broadcastInDim S1x1024x64 ![1, 2] bcast_S1024x64_S1x1024x64_1_2 main_arg1
  let main_v18 : FVec F S1024x1024x64 .f32 := broadcastInDim S1024x1024x64 ![0, 1, 2] bcast_S1024x1x64_S1024x1024x64_0_1_2 main_v16
  fn_part1 (F := F) main_arg1 main_arg2 main_v11 main_v14 main_v15 main_v16 main_v17 main_v18
-- ==== Kernel.lean ====
abbrev S1024x64 : Shape := ⟨2, ![1024, 64]⟩
abbrev S1024x2 : Shape := ⟨2, ![1024, 2]⟩
abbrev S_ : Shape := ⟨0, ![]⟩
abbrev S1024x1 : Shape := ⟨2, ![1024, 1]⟩
abbrev S1024x65 : Shape := ⟨2, ![1024, 65]⟩
abbrev S64x1024 : Shape := ⟨2, ![64, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 15
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S1024x2, .i32⟩
  | .hbm, ⟨3, _⟩ => ⟨S_, .f32⟩
  | .hbm, ⟨4, _⟩ => ⟨S1024x1, .f32⟩
  | .hbm, ⟨5, _⟩ => ⟨S1024x65, .f32⟩
  | .hbm, ⟨6, _⟩ => ⟨S1024x65, .bf16⟩
  | .hbm, ⟨7, _⟩ => ⟨S1024x65, .f32⟩
  | .hbm, ⟨8, _⟩ => ⟨S1024x65, .f32⟩
  | .hbm, ⟨9, _⟩ => ⟨S1024x65, .bf16⟩
  | .hbm, ⟨10, _⟩ => ⟨S_, .f32⟩
  | .hbm, ⟨11, _⟩ => ⟨S1024x64, .f32⟩
  | .hbm, ⟨12, _⟩ => ⟨S1024x64, .f32⟩
  | .hbm, ⟨13, _⟩ => ⟨S64x1024, .f32⟩
  | .hbm, ⟨14, _⟩ => ⟨S1024x64, .f32⟩
  | .local _ .vmem, ⟨0, _⟩ => ⟨S1024x65, .bf16⟩
  | .local _ .vmem, ⟨1, _⟩ => ⟨S1024x65, .bf16⟩
  | .local _ .vmem, ⟨2, _⟩ => ⟨S64x1024, .f32⟩
  | .local _ .vmem, ⟨3, _⟩ => ⟨S1024x64, .f32⟩
  | .local _ .vmem, ⟨4, _⟩ => ⟨S1024x64, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1024x65 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x65 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "bias0" => some (((Real.log (13421773 / 134217728)) * (Real.log 2)⁻¹ : ℝ) : EReal)
  | "bias1" => some (((Real.log (5494409 / 67108864)) * (Real.log 2)⁻¹ : ℝ) : EReal)
  | "bias2" => some (((Real.log (8996883 / 134217728)) * (Real.log 2)⁻¹ : ℝ) : EReal)
  | "bias3" => some (((Real.log (7366025 / 134217728)) * (Real.log 2)⁻¹ : ℝ) : EReal)
  | "bias4" => some (((Real.log (12061583 / 268435456)) * (Real.log 2)⁻¹ : ℝ) : EReal)
  | "c0" => some ((-((1 / 2) * ((Real.log 2) * 256)⁻¹) : ℝ) : EReal)
  | "c1" => some ((-((1 / 2) * ((Real.log 2) * (11068835 / 131072))⁻¹) : ℝ) : EReal)
  | "c2" => some ((-((1 / 2) * ((Real.log 2) * (14605415 / 524288))⁻¹) : ℝ) : EReal)
  | "c3" => some ((-((1 / 2) * ((Real.log 2) * (2408995 / 262144))⁻¹) : ℝ) : EReal)
  | "c4" => some ((-((1 / 2) * ((Real.log 2) * (49667 / 16384))⁻¹) : ℝ) : EReal)
  | "m0" => some ((((Real.log 2) * 256)⁻¹ : ℝ) : EReal)
  | "m1" => some ((((Real.log 2) * (11068835 / 131072))⁻¹ : ℝ) : EReal)
  | "m2" => some ((((Real.log 2) * (14605415 / 524288))⁻¹ : ℝ) : EReal)
  | "m3" => some ((((Real.log 2) * (2408995 / 262144))⁻¹ : ℝ) : EReal)
  | "m4" => some ((((Real.log 2) * (49667 / 16384))⁻¹ : ℝ) : EReal)
  | _ => none
-- ==== ReferenceIdeal.lean ====
abbrev S1024x64 : Shape := ⟨2, ![1024, 64]⟩
abbrev S1024x2 : Shape := ⟨2, ![1024, 2]⟩
abbrev S1024x1x64 : Shape := ⟨3, ![1024, 1, 64]⟩
abbrev S1x1024x64 : Shape := ⟨3, ![1, 1024, 64]⟩
abbrev S1024x1024x64 : Shape := ⟨3, ![1024, 1024, 64]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S1024x1x2 : Shape := ⟨3, ![1024, 1, 2]⟩
abbrev S1x1024x2 : Shape := ⟨3, ![1, 1024, 2]⟩
abbrev S1024x1024x2 : Shape := ⟨3, ![1024, 1024, 2]⟩
abbrev S1024x1024x1 : Shape := ⟨3, ![1024, 1024, 1]⟩

abbrev nBuf : Space → Nat
  | .hbm => 364
  | .vmem => 0
  | .smem => 0
  | _ => 0

abbrev hbmTy0_0 (i : Nat) : BufTy := match i % 128 with
  | 0 => ⟨S1024x64, .f32⟩
  | 1 => ⟨S1024x64, .f32⟩
  | 2 => ⟨S1024x2, .i32⟩
  | 3 => ⟨S1024x1x64, .f32⟩
  | 4 => ⟨S1x1024x64, .f32⟩
  | 5 => ⟨S1024x1024x64, .f32⟩
  | 6 => ⟨S1024x1024x64, .f32⟩
  | 7 => ⟨S1024x1024x64, .f32⟩
  | 8 => ⟨S1024x1024x64, .f32⟩
  | 9 => ⟨S_, .f32⟩
  | 10 => ⟨S1024x1024, .f32⟩
  | 11 => ⟨S1024x1024, .i32⟩
  | 12 => ⟨S_, .f32⟩
  | 13 => ⟨S_, .i32⟩
  | 14 => ⟨S1024, .f32⟩
  | 15 => ⟨S1024, .i32⟩
  | 16 => ⟨S_, .i32⟩
  | 17 => ⟨S1024, .i32⟩
  | 18 => ⟨S1024, .i1⟩
  | 19 => ⟨S_, .i32⟩
  | 20 => ⟨S1024, .i32⟩
  | 21 => ⟨S1024, .i32⟩
  | 22 => ⟨S1024, .i32⟩
  | 23 => ⟨S1024x1, .i32⟩
  | 24 => ⟨S1024x2, .i32⟩
  | 25 => ⟨S1024x1x2, .i32⟩
  | 26 => ⟨S1x1024x2, .i32⟩
  | 27 => ⟨S1024x1024x2, .i32⟩
  | 28 => ⟨S1024x1024x2, .i32⟩
  | 29 => ⟨S1024x1024x2, .i32⟩
  | 30 => ⟨S1024x1024x2, .i32⟩
  | 31 => ⟨S_, .i32⟩
  | 32 => ⟨S1024x1024, .i32⟩
  | 33 => ⟨S1024x1024x1, .i32⟩
  | 34 => ⟨S1024x1024x1, .f32⟩
  | 35 => ⟨S_, .f32⟩
  | 36 => ⟨S1024x1024x1, .f32⟩
  | 37 => ⟨S1024x1024x1, .f32⟩
  | 38 => ⟨S1024x1024x1, .f32⟩
  | 39 => ⟨S_, .f32⟩
  | 40 => ⟨S1024x1024x1, .f32⟩
  | 41 => ⟨S1024x1024x1, .f32⟩
  | 42 => ⟨S1024x1024x1, .f32⟩
  | 43 => ⟨S_, .f32⟩
  | 44 => ⟨S1024x1024x1, .f32⟩
  | 45 => ⟨S1024x1024x1, .f32⟩
  | 46 => ⟨S_, .f32⟩
  | 47 => ⟨S1024x1024x1, .f32⟩
  | 48 => ⟨S1024x1024x1, .f32⟩
  | 49 => ⟨S1024x1024x1, .f32⟩
  | 50 => ⟨S_, .f32⟩
  | 51 => ⟨S1024x1024x1, .f32⟩
  | 52 => ⟨S1024x1024x1, .f32⟩
  | 53 => ⟨S1024x1024x1, .f32⟩
  | 54 => ⟨S1x1024x64, .f32⟩
  | 55 => ⟨S1024x1024x64, .f32⟩
  | 56 => ⟨S1024x1024x64, .f32⟩
  | 57 => ⟨S1024x1024x64, .f32⟩
  | 58 => ⟨S1024x1024x1, .f32⟩
  | 59 => ⟨S1024x1024x64, .f32⟩
  | 60 => ⟨S1024x1024x64, .f32⟩
  | 61 => ⟨S_, .f32⟩
  | 62 => ⟨S1024x64, .f32⟩
  | 63 => ⟨S_, .f32⟩
  | 64 => ⟨S1024x64, .f32⟩
  | 65 => ⟨S1024x64, .f32⟩
  | 66 => ⟨S1024x64, .f32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S1024x1, .i32⟩
  | 75 => ⟨S1024x64, .f32⟩
  | 76 => ⟨S1x1024x64, .f32⟩
  | 77 => ⟨S1024x1024x64, .f32⟩
  | 78 => ⟨S1024x1024x64, .f32⟩
  | 79 => ⟨S1024x1024x64, .f32⟩
  | 80 => ⟨S1024x1024x64, .f32⟩
  | 81 => ⟨S_, .f32⟩
  | 82 => ⟨S1024x1024, .f32⟩
  | 83 => ⟨S1024x1024, .i32⟩
  | 84 => ⟨S_, .f32⟩
  | 85 => ⟨S_, .i32⟩
  | 86 => ⟨S1024, .f32⟩
  | 87 => ⟨S1024, .i32⟩
  | 88 => ⟨S_, .i32⟩
  | 89 => ⟨S1024, .i32⟩
  | 90 => ⟨S1024, .i1⟩
  | 91 => ⟨S_, .i32⟩
  | 92 => ⟨S1024, .i32⟩
  | 93 => ⟨S1024, .i32⟩
  | 94 => ⟨S1024, .i32⟩
  | 95 => ⟨S1024x1, .i32⟩
  | 96 => ⟨S1024x2, .i32⟩
  | 97 => ⟨S1024x1x2, .i32⟩
  | 98 => ⟨S1x1024x2, .i32⟩
  | 99 => ⟨S1024x1024x2, .i32⟩
  | 100 => ⟨S1024x1024x2, .i32⟩
  | 101 => ⟨S1024x1024x2, .i32⟩
  | 102 => ⟨S1024x1024x2, .i32⟩
  | 103 => ⟨S_, .i32⟩
  | 104 => ⟨S1024x1024, .i32⟩
  | 105 => ⟨S1024x1024x1, .i32⟩
  | 106 => ⟨S1024x1024x1, .f32⟩
  | 107 => ⟨S_, .f32⟩
  | 108 => ⟨S1024x1024x1, .f32⟩
  | 109 => ⟨S1024x1024x1, .f32⟩
  | 110 => ⟨S1024x1024x1, .f32⟩
  | 111 => ⟨S_, .f32⟩
  | 112 => ⟨S1024x1024x1, .f32⟩
  | 113 => ⟨S1024x1024x1, .f32⟩
  | 114 => ⟨S1024x1024x1, .f32⟩
  | 115 => ⟨S_, .f32⟩
  | 116 => ⟨S1024x1024x1, .f32⟩
  | 117 => ⟨S1024x1024x1, .f32⟩
  | 118 => ⟨S_, .f32⟩
  | 119 => ⟨S1024x1024x1, .f32⟩
  | 120 => ⟨S1024x1024x1, .f32⟩
  | 121 => ⟨S1024x1024x1, .f32⟩
  | 122 => ⟨S_, .f32⟩
  | 123 => ⟨S1024x1024x1, .f32⟩
  | 124 => ⟨S1024x1024x1, .f32⟩
  | 125 => ⟨S1024x1024x1, .f32⟩
  | 126 => ⟨S1x1024x64, .f32⟩
  | 127 => ⟨S1024x1024x64, .f32⟩
  | _ => ⟨S1024x64, .f32⟩

abbrev hbmTy0_1 (i : Nat) : BufTy := match i % 128 with
  | 0 => ⟨S1024x1024x64, .f32⟩
  | 1 => ⟨S1024x1024x64, .f32⟩
  | 2 => ⟨S1024x1024x1, .f32⟩
  | 3 => ⟨S1024x1024x64, .f32⟩
  | 4 => ⟨S1024x1024x64, .f32⟩
  | 5 => ⟨S_, .f32⟩
  | 6 => ⟨S1024x64, .f32⟩
  | 7 => ⟨S_, .f32⟩
  | 8 => ⟨S1024x64, .f32⟩
  | 9 => ⟨S1024x64, .f32⟩
  | 10 => ⟨S1024x64, .f32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S1024x64, .f32⟩
  | 20 => ⟨S1x1024x64, .f32⟩
  | 21 => ⟨S1024x1024x64, .f32⟩
  | 22 => ⟨S1024x1024x64, .f32⟩
  | 23 => ⟨S1024x1024x64, .f32⟩
  | 24 => ⟨S1024x1024x64, .f32⟩
  | 25 => ⟨S_, .f32⟩
  | 26 => ⟨S1024x1024, .f32⟩
  | 27 => ⟨S1024x1024, .i32⟩
  | 28 => ⟨S_, .f32⟩
  | 29 => ⟨S_, .i32⟩
  | 30 => ⟨S1024, .f32⟩
  | 31 => ⟨S1024, .i32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S1024x1, .i32⟩
  | 40 => ⟨S1024x2, .i32⟩
  | 41 => ⟨S1024x1x2, .i32⟩
  | 42 => ⟨S1x1024x2, .i32⟩
  | 43 => ⟨S1024x1024x2, .i32⟩
  | 44 => ⟨S1024x1024x2, .i32⟩
  | 45 => ⟨S1024x1024x2, .i32⟩
  | 46 => ⟨S1024x1024x2, .i32⟩
  | 47 => ⟨S_, .i32⟩
  | 48 => ⟨S1024x1024, .i32⟩
  | 49 => ⟨S1024x1024x1, .i32⟩
  | 50 => ⟨S1024x1024x1, .f32⟩
  | 51 => ⟨S_, .f32⟩
  | 52 => ⟨S1024x1024x1, .f32⟩
  | 53 => ⟨S1024x1024x1, .f32⟩
  | 54 => ⟨S1024x1024x1, .f32⟩
  | 55 => ⟨S_, .f32⟩
  | 56 => ⟨S1024x1024x1, .f32⟩
  | 57 => ⟨S1024x1024x1, .f32⟩
  | 58 => ⟨S1024x1024x1, .f32⟩
  | 59 => ⟨S_, .f32⟩
  | 60 => ⟨S1024x1024x1, .f32⟩
  | 61 => ⟨S1024x1024x1, .f32⟩
  | 62 => ⟨S_, .f32⟩
  | 63 => ⟨S1024x1024x1, .f32⟩
  | 64 => ⟨S1024x1024x1, .f32⟩
  | 65 => ⟨S1024x1024x1, .f32⟩
  | 66 => ⟨S_, .f32⟩
  | 67 => ⟨S1024x1024x1, .f32⟩
  | 68 => ⟨S1024x1024x1, .f32⟩
  | 69 => ⟨S1024x1024x1, .f32⟩
  | 70 => ⟨S1x1024x64, .f32⟩
  | 71 => ⟨S1024x1024x64, .f32⟩
  | 72 => ⟨S1024x1024x64, .f32⟩
  | 73 => ⟨S1024x1024x64, .f32⟩
  | 74 => ⟨S1024x1024x1, .f32⟩
  | 75 => ⟨S1024x1024x64, .f32⟩
  | 76 => ⟨S1024x1024x64, .f32⟩
  | 77 => ⟨S_, .f32⟩
  | 78 => ⟨S1024x64, .f32⟩
  | 79 => ⟨S_, .f32⟩
  | 80 => ⟨S1024x64, .f32⟩
  | 81 => ⟨S1024x64, .f32⟩
  | 82 => ⟨S1024x64, .f32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S1024x1, .i32⟩
  | 91 => ⟨S1024x64, .f32⟩
  | 92 => ⟨S1x1024x64, .f32⟩
  | 93 => ⟨S1024x1024x64, .f32⟩
  | 94 => ⟨S1024x1024x64, .f32⟩
  | 95 => ⟨S1024x1024x64, .f32⟩
  | 96 => ⟨S1024x1024x64, .f32⟩
  | 97 => ⟨S_, .f32⟩
  | 98 => ⟨S1024x1024, .f32⟩
  | 99 => ⟨S1024x1024, .i32⟩
  | 100 => ⟨S_, .f32⟩
  | 101 => ⟨S_, .i32⟩
  | 102 => ⟨S1024, .f32⟩
  | 103 => ⟨S1024, .i32⟩
  | 104 => ⟨S_, .i32⟩
  | 105 => ⟨S1024, .i32⟩
  | 106 => ⟨S1024, .i1⟩
  | 107 => ⟨S_, .i32⟩
  | 108 => ⟨S1024, .i32⟩
  | 109 => ⟨S1024, .i32⟩
  | 110 => ⟨S1024, .i32⟩
  | 111 => ⟨S1024x1, .i32⟩
  | 112 => ⟨S1024x2, .i32⟩
  | 113 => ⟨S1024x1x2, .i32⟩
  | 114 => ⟨S1x1024x2, .i32⟩
  | 115 => ⟨S1024x1024x2, .i32⟩
  | 116 => ⟨S1024x1024x2, .i32⟩
  | 117 => ⟨S1024x1024x2, .i32⟩
  | 118 => ⟨S1024x1024x2, .i32⟩
  | 119 => ⟨S_, .i32⟩
  | 120 => ⟨S1024x1024, .i32⟩
  | 121 => ⟨S1024x1024x1, .i32⟩
  | 122 => ⟨S1024x1024x1, .f32⟩
  | 123 => ⟨S_, .f32⟩
  | 124 => ⟨S1024x1024x1, .f32⟩
  | 125 => ⟨S1024x1024x1, .f32⟩
  | 126 => ⟨S1024x1024x1, .f32⟩
  | 127 => ⟨S_, .f32⟩
  | _ => ⟨S1024x64, .f32⟩

abbrev hbmTy0_2 (i : Nat) : BufTy := match i % 128 with
  | 0 => ⟨S1024x1024x1, .f32⟩
  | 1 => ⟨S1024x1024x1, .f32⟩
  | 2 => ⟨S1024x1024x1, .f32⟩
  | 3 => ⟨S_, .f32⟩
  | 4 => ⟨S1024x1024x1, .f32⟩
  | 5 => ⟨S1024x1024x1, .f32⟩
  | 6 => ⟨S_, .f32⟩
  | 7 => ⟨S1024x1024x1, .f32⟩
  | 8 => ⟨S1024x1024x1, .f32⟩
  | 9 => ⟨S1024x1024x1, .f32⟩
  | 10 => ⟨S_, .f32⟩
  | 11 => ⟨S1024x1024x1, .f32⟩
  | 12 => ⟨S1024x1024x1, .f32⟩
  | 13 => ⟨S1024x1024x1, .f32⟩
  | 14 => ⟨S1x1024x64, .f32⟩
  | 15 => ⟨S1024x1024x64, .f32⟩
  | 16 => ⟨S1024x1024x64, .f32⟩
  | 17 => ⟨S1024x1024x64, .f32⟩
  | 18 => ⟨S1024x1024x1, .f32⟩
  | 19 => ⟨S1024x1024x64, .f32⟩
  | 20 => ⟨S1024x1024x64, .f32⟩
  | 21 => ⟨S_, .f32⟩
  | 22 => ⟨S1024x64, .f32⟩
  | 23 => ⟨S_, .f32⟩
  | 24 => ⟨S1024x64, .f32⟩
  | 25 => ⟨S1024x64, .f32⟩
  | 26 => ⟨S1024x64, .f32⟩
  | 27 => ⟨S_, .i32⟩
  | 28 => ⟨S1024, .i32⟩
  | 29 => ⟨S1024, .i1⟩
  | 30 => ⟨S_, .i32⟩
  | 31 => ⟨S1024, .i32⟩
  | 32 => ⟨S1024, .i32⟩
  | 33 => ⟨S1024, .i32⟩
  | 34 => ⟨S1024x1, .i32⟩
  | 35 => ⟨S1024x64, .f32⟩
  | 36 => ⟨S1x1024x64, .f32⟩
  | 37 => ⟨S1024x1024x64, .f32⟩
  | 38 => ⟨S1024x1024x64, .f32⟩
  | 39 => ⟨S1024x1024x64, .f32⟩
  | 40 => ⟨S1024x1024x64, .f32⟩
  | 41 => ⟨S_, .f32⟩
  | 42 => ⟨S1024x1024, .f32⟩
  | 43 => ⟨S1024x1024, .i32⟩
  | 44 => ⟨S_, .f32⟩
  | 45 => ⟨S_, .i32⟩
  | 46 => ⟨S1024, .f32⟩
  | 47 => ⟨S1024, .i32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S1024x2, .i32⟩
  | 57 => ⟨S1024x1x2, .i32⟩
  | 58 => ⟨S1x1024x2, .i32⟩
  | 59 => ⟨S1024x1024x2, .i32⟩
  | 60 => ⟨S1024x1024x2, .i32⟩
  | 61 => ⟨S1024x1024x2, .i32⟩
  | 62 => ⟨S1024x1024x2, .i32⟩
  | 63 => ⟨S_, .i32⟩
  | 64 => ⟨S1024x1024, .i32⟩
  | 65 => ⟨S1024x1024x1, .i32⟩
  | 66 => ⟨S1024x1024x1, .f32⟩
  | 67 => ⟨S_, .f32⟩
  | 68 => ⟨S1024x1024x1, .f32⟩
  | 69 => ⟨S1024x1024x1, .f32⟩
  | 70 => ⟨S1024x1024x1, .f32⟩
  | 71 => ⟨S_, .f32⟩
  | 72 => ⟨S1024x1024x1, .f32⟩
  | 73 => ⟨S1024x1024x1, .f32⟩
  | 74 => ⟨S1024x1024x1, .f32⟩
  | 75 => ⟨S_, .f32⟩
  | 76 => ⟨S1024x1024x1, .f32⟩
  | 77 => ⟨S1024x1024x1, .f32⟩
  | 78 => ⟨S_, .f32⟩
  | 79 => ⟨S1024x1024x1, .f32⟩
  | 80 => ⟨S1024x1024x1, .f32⟩
  | 81 => ⟨S1024x1024x1, .f32⟩
  | 82 => ⟨S_, .f32⟩
  | 83 => ⟨S1024x1024x1, .f32⟩
  | 84 => ⟨S1024x1024x1, .f32⟩
  | 85 => ⟨S1024x1024x1, .f32⟩
  | 86 => ⟨S1x1024x64, .f32⟩
  | 87 => ⟨S1024x1024x64, .f32⟩
  | 88 => ⟨S1024x1024x64, .f32⟩
  | 89 => ⟨S1024x1024x64, .f32⟩
  | 90 => ⟨S1024x1024x1, .f32⟩
  | 91 => ⟨S1024x1024x64, .f32⟩
  | 92 => ⟨S1024x1024x64, .f32⟩
  | 93 => ⟨S_, .f32⟩
  | 94 => ⟨S1024x64, .f32⟩
  | 95 => ⟨S_, .f32⟩
  | 96 => ⟨S1024x64, .f32⟩
  | 97 => ⟨S1024x64, .f32⟩
  | 98 => ⟨S1024x64, .f32⟩
  | 99 => ⟨S_, .i32⟩
  | 100 => ⟨S1024, .i32⟩
  | 101 => ⟨S1024, .i1⟩
  | 102 => ⟨S_, .i32⟩
  | 103 => ⟨S1024, .i32⟩
  | 104 => ⟨S1024, .i32⟩
  | 105 => ⟨S1024, .i32⟩
  | 106 => ⟨S1024x1, .i32⟩
  | 107 => ⟨S1024x64, .f32⟩
  | _ => ⟨S1024x64, .f32⟩

abbrev hbmTy (i : Nat) : BufTy := match i / 128 with
  | 0 => hbmTy0_0 i
  | 1 => hbmTy0_1 i
  | 2 => hbmTy0_2 i
  | _ => ⟨S1024x64, .f32⟩

abbrev bufTy : (tb : Table) → Fin (tcTables nBuf tb) → BufTy
  | .hbm, ⟨i, _⟩ => hbmTy i
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call1_cst : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_call2_v0 : Ref sig .tc := ⟨.hbm, 83, rfl⟩
abbrev main_call2_cst : Ref sig .tc := ⟨.hbm, 84, rfl⟩
abbrev main_call2_c : Ref sig .tc := ⟨.hbm, 85, rfl⟩
abbrev main_call2_v1_0 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call3_cst : Ref sig .tc := ⟨.hbm, 111, rfl⟩
abbrev main_call3_v0 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_cst_19 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_20 : Ref sig .tc := ⟨.hbm, 139, rfl⟩
abbrev main_v102 : Ref sig .tc := ⟨.hbm, 140, rfl⟩
abbrev main_v103 : Ref sig .tc := ⟨.hbm, 141, rfl⟩
abbrev main_c_21 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_22 : Ref sig .tc := ⟨.hbm, 153, rfl⟩
abbrev main_v114 : Ref sig .tc := ⟨.hbm, 154, rfl⟩
abbrev main_call4_v0 : Ref sig .tc := ⟨.hbm, 155, rfl⟩
abbrev main_call4_cst : Ref sig .tc := ⟨.hbm, 156, rfl⟩
abbrev main_call4_c : Ref sig .tc := ⟨.hbm, 157, rfl⟩
abbrev main_call4_v1_0 : Ref sig .tc := ⟨.hbm, 158, rfl⟩
abbrev main_v115 : Ref sig .tc := ⟨.hbm, 159, rfl⟩
abbrev main_c_23 : Ref sig .tc := ⟨.hbm, 160, rfl⟩
abbrev main_v116 : Ref sig .tc := ⟨.hbm, 161, rfl⟩
abbrev main_v117 : Ref sig .tc := ⟨.hbm, 162, rfl⟩
abbrev main_c_24 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_25 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_26 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_call5_cst : Ref sig .tc := ⟨.hbm, 183, rfl⟩
abbrev main_call5_v0 : Ref sig .tc := ⟨.hbm, 184, rfl⟩
abbrev main_v135 : Ref sig .tc := ⟨.hbm, 185, rfl⟩
abbrev main_v136 : Ref sig .tc := ⟨.hbm, 186, rfl⟩
abbrev main_cst_27 : Ref sig .tc := ⟨.hbm, 187, rfl⟩
abbrev main_v137 : Ref sig .tc := ⟨.hbm, 188, rfl⟩
abbrev main_v138 : Ref sig .tc := ⟨.hbm, 189, rfl⟩
abbrev main_cst_28 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_29 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_30 : Ref sig .tc := ⟨.hbm, 205, rfl⟩
abbrev main_v152 : Ref sig .tc := ⟨.hbm, 206, rfl⟩
abbrev main_cst_31 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_c_32 : Ref sig .tc := ⟨.hbm, 211, rfl⟩
abbrev main_v156 : Ref sig .tc := ⟨.hbm, 212, rfl⟩
abbrev main_v157 : Ref sig .tc := ⟨.hbm, 213, rfl⟩
abbrev main_c_33 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_cst_34 : Ref sig .tc := ⟨.hbm, 225, rfl⟩
abbrev main_v168 : Ref sig .tc := ⟨.hbm, 226, rfl⟩
abbrev main_call6_v0 : Ref sig .tc := ⟨.hbm, 227, rfl⟩
abbrev main_call6_cst : Ref sig .tc := ⟨.hbm, 228, rfl⟩
abbrev main_call6_c : Ref sig .tc := ⟨.hbm, 229, rfl⟩
abbrev main_call6_v1_0 : Ref sig .tc := ⟨.hbm, 230, rfl⟩
abbrev main_v169 : Ref sig .tc := ⟨.hbm, 231, rfl⟩
abbrev main_c_35 : Ref sig .tc := ⟨.hbm, 232, rfl⟩
abbrev main_v170 : Ref sig .tc := ⟨.hbm, 233, rfl⟩
abbrev main_v171 : Ref sig .tc := ⟨.hbm, 234, rfl⟩
abbrev main_c_36 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_37 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_cst_38 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_call7_cst : Ref sig .tc := ⟨.hbm, 255, rfl⟩
abbrev main_call7_v0 : Ref sig .tc := ⟨.hbm, 256, rfl⟩
abbrev main_v189 : Ref sig .tc := ⟨.hbm, 257, rfl⟩
abbrev main_v190 : Ref sig .tc := ⟨.hbm, 258, rfl⟩
abbrev main_cst_39 : Ref sig .tc := ⟨.hbm, 259, rfl⟩
abbrev main_v191 : Ref sig .tc := ⟨.hbm, 260, rfl⟩
abbrev main_v192 : Ref sig .tc := ⟨.hbm, 261, rfl⟩
abbrev main_cst_40 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_cst_41 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_cst_42 : Ref sig .tc := ⟨.hbm, 277, rfl⟩
abbrev main_v206 : Ref sig .tc := ⟨.hbm, 278, rfl⟩
abbrev main_cst_43 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_c_44 : Ref sig .tc := ⟨.hbm, 283, rfl⟩
abbrev main_v210 : Ref sig .tc := ⟨.hbm, 284, rfl⟩
abbrev main_v211 : Ref sig .tc := ⟨.hbm, 285, rfl⟩
abbrev main_c_45 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_cst_46 : Ref sig .tc := ⟨.hbm, 297, rfl⟩
abbrev main_v222 : Ref sig .tc := ⟨.hbm, 298, rfl⟩
abbrev main_call8_v0 : Ref sig .tc := ⟨.hbm, 299, rfl⟩
abbrev main_call8_cst : Ref sig .tc := ⟨.hbm, 300, rfl⟩
abbrev main_call8_c : Ref sig .tc := ⟨.hbm, 301, rfl⟩
abbrev main_call8_v1_0 : Ref sig .tc := ⟨.hbm, 302, rfl⟩
abbrev main_v223 : Ref sig .tc := ⟨.hbm, 303, rfl⟩
abbrev main_c_47 : Ref sig .tc := ⟨.hbm, 304, rfl⟩
abbrev main_v224 : Ref sig .tc := ⟨.hbm, 305, rfl⟩
abbrev main_v225 : Ref sig .tc := ⟨.hbm, 306, rfl⟩
abbrev main_c_48 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_c_49 : Ref sig .tc := ⟨.hbm, 319, rfl⟩
abbrev main_v237 : Ref sig .tc := ⟨.hbm, 320, rfl⟩
abbrev main_v238 : Ref sig .tc := ⟨.hbm, 321, rfl⟩
abbrev main_v239 : Ref sig .tc := ⟨.hbm, 322, rfl⟩
abbrev main_cst_50 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_call9_cst : Ref sig .tc := ⟨.hbm, 327, rfl⟩
abbrev main_call9_v0 : Ref sig .tc := ⟨.hbm, 328, rfl⟩
abbrev main_v243 : Ref sig .tc := ⟨.hbm, 329, rfl⟩
abbrev main_v244 : Ref sig .tc := ⟨.hbm, 330, rfl⟩
abbrev main_cst_51 : Ref sig .tc := ⟨.hbm, 331, rfl⟩
abbrev main_v245 : Ref sig .tc := ⟨.hbm, 332, rfl⟩
abbrev main_v246 : Ref sig .tc := ⟨.hbm, 333, rfl⟩
abbrev main_cst_52 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_cst_53 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_cst_54 : Ref sig .tc := ⟨.hbm, 349, rfl⟩
abbrev main_v260 : Ref sig .tc := ⟨.hbm, 350, rfl⟩
abbrev main_cst_55 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_c_56 : Ref sig .tc := ⟨.hbm, 355, rfl⟩
abbrev main_v264 : Ref sig .tc := ⟨.hbm, 356, rfl⟩
abbrev main_v265 : Ref sig .tc := ⟨.hbm, 357, rfl⟩
abbrev main_c_57 : Ref sig .tc := ⟨.hbm, 358, rfl⟩
abbrev main_v266 : Ref sig .tc := ⟨.hbm, 359, rfl⟩
abbrev main_v267 : Ref sig .tc := ⟨.hbm, 360, rfl⟩
abbrev main_v268 : Ref sig .tc := ⟨.hbm, 361, rfl⟩
abbrev main_v269 : Ref sig .tc := ⟨.hbm, 362, rfl⟩
abbrev main_v270 : Ref sig .tc := ⟨.hbm, 363, rfl⟩

abbrev nD : Nat := 1
abbrev τ : Topo := Topo.v7x

variable {F : FTy → Type} [FloatOps F]
-- ==== Proof.RefLine.lean ====
module

public import proofs.«01_k».proof.Proof.Gen.ReferenceIdeal
public import Idealize.ShloMosaic.Lib.StableHlo.Run
public import Idealize.ShloMosaic.Lib.Pipeline.Frame

/-!
The reference's host program as lists of its operations, cut where an iteration's new weights are written
and where the printed program is cut into parts.
-/

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Iteration 1: its operations up to the new weights. -/
abbrev it0 : List (HloOp τ sig (Elt F)) :=
  [ unary main_arg0 main_v0 (broadcastInDim S1024x1x64 ![0, 2] bcast_S1024x64_S1024x1x64_0_2 : (⟨S1024x64, .f32⟩ : BufTy).Contents (Elt F) → (⟨S1024x1x64, .f32⟩ : BufTy).Contents (Elt F)),
    unary main_arg1 main_v1 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v2 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v1 main_v3 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v2 main_v3 main_v4 (subf : (⟨S1024x1024x64, .f32⟩ : BufTy).Contents (Elt F) → (⟨S1024x1024x64, .f32⟩ : BufTy).Contents (Elt F) → (⟨S1024x1024x64, .f32⟩ : BufTy).Contents (Elt F)),
    binary main_v4 main_v4 main_v5 (mulf : (⟨S1024x1024x64, .f32⟩ : BufTy).Contents (Elt F) → (⟨S1024x1024x64, .f32⟩ : BufTy).Contents (Elt F) → (⟨S1024x1024x64, .f32⟩ : BufTy).Contents (Elt F)),
    nullary main_cst (constant S_ .f32 0x00000000#32),
    binary main_v5 main_cst main_v6 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    TRef.nullary (TRef.of (T := ⟨S1024x1024, .i32⟩) main_call0_v0) (iotaInDim S1024x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S1024x1024, .f32⟩) main_v6) (TRef.of (T := ⟨S1024x1024, .i32⟩) main_call0_v0) (TRef.of (T := ⟨S_, .f32⟩) main_call0_cst) (TRef.of (T := ⟨S_, .i32⟩) main_call0_c) (TRef.of (T := ⟨S1024, .f32⟩) main_call0_v1_0) (fun x y u v j => (Host.argReduce reducer_argmin_f32_i32 x y u v reducesTo_S1024x1024_S1024_d1 h_S_ j).1),
    TRef.quaternary (TRef.of (T := ⟨S1024x1024, .f32⟩) main_v6) (TRef.of (T := ⟨S1024x1024, .i32⟩) main_call0_v0) (TRef.of (T := ⟨S_, .f32⟩) main_call0_cst) (TRef.of (T := ⟨S_, .i32⟩) main_call0_c) (TRef.of (T := ⟨S1024, .i32⟩) main_v7) (fun x y u v j => (Host.argReduce reducer_argmin_f32_i32 x y u v reducesTo_S1024x1024_S1024_d1 h_S_ j).2),
    nullary main_c (constantI S_ 32 0#32),
    unary main_c main_v8 (broadcastInDim S1024 ![] bcast_S_S1024 : (⟨S_, .i32⟩ : BufTy).Contents (Elt F) → (⟨S1024, .i32⟩ : BufTy).Contents (Elt F)),
    binary main_v7 main_v8 main_v9 (cmpi .slt : (⟨S1024, .i32⟩ : BufTy).Contents (Elt F) → (⟨S1024, .i32⟩ : BufTy).Contents (Elt F) → (⟨S1024, .i1⟩ : BufTy).Contents (Elt F)),
    nullary main_c_0 (constantI S_ 32 1024#32),
    unary main_c_0 main_v10 (broadcastInDim S1024 ![] bcast_S_S1024 : (⟨S_, .i32⟩ : BufTy).Contents (Elt F) → (⟨S1024, .i32⟩ : BufTy).Contents (Elt F)),
    binary main_v7 main_v10 main_v11 (addi : (⟨S1024, .i32⟩ : BufTy).Contents (Elt F) → (⟨S1024, .i32⟩ : BufTy).Contents (Elt F) → (⟨S1024, .i32⟩ : BufTy).Contents (Elt F)),
    ternary main_v9 main_v11 main_v7 main_v12 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v12 main_v13 (broadcastInDim S1024x1 ![0] bcast_S1024_S1024x1_0 : (⟨S1024, .i32⟩ : BufTy).Contents (Elt F) → (⟨S1024x1, .i32⟩ : BufTy).Contents (Elt F)),
    binary main_arg2 main_v13 main_v14 ((fun x i => Host.gather gather_S1024x2_S1024x1_S1024x2_1_0_n_n_0_1_12 x i) : (⟨S1024x2, .i32⟩ : BufTy).Contents (Elt F) → (⟨S1024x1, .i32⟩ : BufTy).Contents (Elt F) → (⟨S1024x2, .i32⟩ : BufTy).Contents (Elt F)),
    unary main_v14 main_v15 (broadcastInDim S1024x1x2 ![0, 2] bcast_S1024x2_S1024x1x2_0_2 : (⟨S1024x2, .i32⟩ : BufTy).Contents (Elt F) → (⟨S1024x1x2, .i32⟩ : BufTy).Contents (Elt F)),
    unary main_arg2 main_v16 (broadcastInDim S1x1024x2 ![1, 2] bcast_S1024x2_S1x1024x2_1_2 : (⟨S1024x2, .i32⟩ : BufTy).Contents (Elt F) → (⟨S1x1024x2, .i32⟩ : BufTy).Contents (Elt F)),
    unary main_v16 main_v17 (broadcastInDim S1024x1024x2 ![0, 1, 2] bcast_S1x1024x2_S1024x1024x2_0_1_2 : (⟨S1x1024x2, .i32⟩ : BufTy).Contents (Elt F) → (⟨S1024x1024x2, .i32⟩ : BufTy).Contents (Elt F)),
    unary main_v15 main_v18 (broadcastInDim S1024x1024x2 ![0, 1, 2] bcast_S1024x1x2_S1024x1024x2_0_1_2 : (⟨S1024x1x2, .i32⟩ : BufTy).Contents (Elt F) → (⟨S1024x1024x2, .i32⟩ : BufTy).Contents (Elt F)),
    binary main_v17 main_v18 main_v19 (subi : (⟨S1024x1024x2, .i32⟩ : BufTy).Contents (Elt F) → (⟨S1024x1024x2, .i32⟩ : BufTy).Contents (Elt F) → (⟨S1024x1024x2, .i32⟩ : BufTy).Contents (Elt F)),
    binary main_v19 main_v19 main_v20 (muli : (⟨S1024x1024x2, .i32⟩ : BufTy).Contents (Elt F) → (⟨S1024x1024x2, .i32⟩ : BufTy).Contents (Elt F) → (⟨S1024x1024x2, .i32⟩ : BufTy).Contents (Elt F)),
    nullary main_c_1 (constantI S_ 32 0#32),
    binary main_v20 main_c_1 main_v21 ((fun x v => Host.reduce IntOp.addi x v reducesTo_S1024x1024x2_S1024x1024_d2 h_S_) : (⟨S1024x1024x2, .i32⟩ : BufTy).Contents (Elt F) → (⟨S_, .i32⟩ : BufTy).Contents (Elt F) → (⟨S1024x1024, .i32⟩ : BufTy).Contents (Elt F)),
    unary main_v21 main_v22 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v22 main_v23 (sitofp .f32 : (⟨S1024x1024x1, .i32⟩ : BufTy).Contents (Elt F) → (⟨S1024x1024x1, .f32⟩ : BufTy).Contents (Elt F)),
    nullary main_cst_2 (constant S_ .f32 0x43800000#32),
    unary main_cst_2 main_v24 (broadcastInDim S1024x1024x1 ![] bcast_S_S1024x1024x1 : (⟨S_, .f32⟩ : BufTy).Contents (Elt F) → (⟨S1024x1024x1, .f32⟩ : BufTy).Contents (Elt F)),
    binary main_v24 main_v23 main_v25 (subf : (⟨S1024x1024x1, .f32⟩ : BufTy).Contents (Elt F) → (⟨S1024x1024x1, .f32⟩ : BufTy).Contents (Elt F) → (⟨S1024x1024x1, .f32⟩ : BufTy).Contents (Elt F)),
    unary main_v25 main_v26 (Host.sign : (⟨S1024x1024x1, .f32⟩ : BufTy).Contents (Elt F) → (⟨S1024x1024x1, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1024x1024x1, .f32⟩) main_call1_v0) (broadcastInDim S1024x1024x1 ![] bcast_S_S1024x1024x1),
    TRef.binary (TRef.of (T := ⟨S1024x1024x1, .f32⟩) main_v26) (TRef.of (T := ⟨S1024x1024x1, .f32⟩) main_call1_v0) (TRef.of (T := ⟨S1024x1024x1, .f32⟩) main_v27) maximumf,
    unary main_v22 main_v28 (sitofp .f32 : (⟨S1024x1024x1, .i32⟩ : BufTy).Contents (Elt F) → (⟨S1024x1024x1, .f32⟩ : BufTy).Contents (Elt F)),
    nullary main_cst_3 (constant S_ .f32 0xBF000000#32),
    unary main_cst_3 main_v29 (broadcastInDim S1024x1024x1 ![] bcast_S_S1024x1024x1 : (⟨S_, .f32⟩ : BufTy).Contents (Elt F) → (⟨S1024x1024x1, .f32⟩ : BufTy).Contents (Elt F)),
    binary main_v29 main_v28 main_v30 (mulf : (⟨S1024x1024x1, .f32⟩ : BufTy).Contents (Elt F) → (⟨S1024x1024x1, .f32⟩ : BufTy).Contents (Elt F) → (⟨S1024x1024x1, .f32⟩ : BufTy).Contents (Elt F)),
    nullary main_cst_4 (constant S_ .f32 0x43800000#32),
    unary main_cst_4 main_v31 (broadcastInDim S1024x1024x1 ![] bcast_S_S1024x1024x1 : (⟨S_, .f32⟩ : BufTy).Contents (Elt F) → (⟨S1024x1024x1, .f32⟩ : BufTy).Contents (Elt F)),
    binary main_v30 main_v31 main_v32 (Host.divf : (⟨S1024x1024x1, .f32⟩ : BufTy).Contents (Elt F) → (⟨S1024x1024x1, .f32⟩ : BufTy).Contents (Elt F) → (⟨S1024x1024x1, .f32⟩ : BufTy).Contents (Elt F)),
    unary main_v32 main_v33 (Host.exp : (⟨S1024x1024x1, .f32⟩ : BufTy).Contents (Elt F) → (⟨S1024x1024x1, .f32⟩ : BufTy).Contents (Elt F)),
    nullary main_cst_5 (constant S_ .f32 0x3DCCCCCD#32),
    unary main_cst_5 main_v34 (broadcastInDim S1024x1024x1 ![] bcast_S_S1024x1024x1 : (⟨S_, .f32⟩ : BufTy).Contents (Elt F) → (⟨S1024x1024x1, .f32⟩ : BufTy).Contents (Elt F)),
    binary main_v34 main_v33 main_v35 (mulf : (⟨S1024x1024x1, .f32⟩ : BufTy).Contents (Elt F) → (⟨S1024x1024x1, .f32⟩ : BufTy).Contents (Elt F) → (⟨S1024x1024x1, .f32⟩ : BufTy).Contents (Elt F)),
    binary main_v35 main_v27 main_v36 (mulf : (⟨S1024x1024x1, .f32⟩ : BufTy).Contents (Elt F) → (⟨S1024x1024x1, .f32⟩ : BufTy).Contents (Elt F) → (⟨S1024x1024x1, .f32⟩ : BufTy).Contents (Elt F)),
    unary main_arg1 main_v37 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v38 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v37 main_v39 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v38 main_v39 main_v40 (subf : (⟨S1024x1024x64, .f32⟩ : BufTy).Contents (Elt F) → (⟨S1024x1024x64, .f32⟩ : BufTy).Contents (Elt F) → (⟨S1024x1024x64, .f32⟩ : BufTy).Contents (Elt F)),
    unary main_v36 main_v41 (id : (⟨S1024x1024x1, .f32⟩ : BufTy).Contents (Elt F) → (⟨S1024x1024x1, .f32⟩ : BufTy).Contents (Elt F)),
    unary main_v41 main_v42 (broadcastInDim S1024x1024x64 ![0, 1, 2] bcast_S1024x1024x1_S1024x1024x64_0_1_2 : (⟨S1024x1024x1, .f32⟩ : BufTy).Contents (Elt F) → (⟨S1024x1024x64, .f32⟩ : BufTy).Contents (Elt F)),
    binary main_v42 main_v40 main_v43 (mulf : (⟨S1024x1024x64, .f32⟩ : BufTy).Contents (Elt F) → (⟨S1024x1024x64, .f32⟩ : BufTy).Contents (Elt F) → (⟨S1024x1024x64, .f32⟩ : BufTy).Contents (Elt F)),
    nullary main_cst_6 (constant S_ .f32 0x00000000#32),
    binary main_v43 main_cst_6 main_v44 ((fun x v => Host.reduceAdd x v reducesTo_S1024x1024x64_S1024x64_d0 h_S_) : (⟨S1024x1024x64, .f32⟩ : BufTy).Contents (Elt F) → (⟨S_, .f32⟩ : BufTy).Contents (Elt F) → (⟨S1024x64, .f32⟩ : BufTy).Contents (Elt F)),
    nullary main_cst_7 (constant S_ .f32 0x44800000#32),
    unary main_cst_7 main_v45 (broadcastInDim S1024x64 ![] bcast_S_S1024x64 : (⟨S_, .f32⟩ : BufTy).Contents (Elt F) → (⟨S1024x64, .f32⟩ : BufTy).Contents (Elt F)),
    binary main_v44 main_v45 main_v46 (Host.divf : (⟨S1024x64, .f32⟩ : BufTy).Contents (Elt F) → (⟨S1024x64, .f32⟩ : BufTy).Contents (Elt F) → (⟨S1024x64, .f32⟩ : BufTy).Contents (Elt F)),
    binary main_arg1 main_v46 main_v47 (addf : (⟨S1024x64, .f32⟩ : BufTy).Contents (Elt F) → (⟨S1024x64, .f32⟩ : BufTy).Contents (Elt F) → (⟨S1024x64, .f32⟩ : BufTy).Contents (Elt F)) ]

/-- Iteration 1: the rows looked up in the new weights. -/
abbrev out0 : List (HloOp τ sig (Elt F)) :=
  [ nullary main_c_8 (constantI S_ 32 0#32),
    unary main_c_8 main_v48 (broadcastInDim S1024 ![] bcast_S_S1024 : (⟨S_, .i32⟩ : BufTy).Contents (Elt F) → (⟨S1024, .i32⟩ : BufTy).Contents (Elt F)) ]

/-- Iteration 1: the rows looked up in the new weights, those of the next part. -/
abbrev out0b : List (HloOp τ sig (Elt F)) :=
  [ binary main_v7 main_v48 main_v49 (cmpi .slt : (⟨S1024, .i32⟩ : BufTy).Contents (Elt F) → (⟨S1024, .i32⟩ : BufTy).Contents (Elt F) → (⟨S1024, .i1⟩ : BufTy).Contents (Elt F)),
    nullary main_c_9 (constantI S_ 32 1024#32),
    unary main_c_9 main_v50 (broadcastInDim S1024 ![] bcast_S_S1024 : (⟨S_, .i32⟩ : BufTy).Contents (Elt F) → (⟨S1024, .i32⟩ : BufTy).Contents (Elt F)),
    binary main_v7 main_v50 main_v51 (addi : (⟨S1024, .i32⟩ : BufTy).Contents (Elt F) → (⟨S1024, .i32⟩ : BufTy).Contents (Elt F) → (⟨S1024, .i32⟩ : BufTy).Contents (Elt F)),
    ternary main_v49 main_v51 main_v7 main_v52 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v52 main_v53 (broadcastInDim S1024x1 ![0] bcast_S1024_S1024x1_0 : (⟨S1024, .i32⟩ : BufTy).Contents (Elt F) → (⟨S1024x1, .i32⟩ : BufTy).Contents (Elt F)),
    binary main_v47 main_v53 main_v54 ((fun x i => Host.gather gather_S1024x64_S1024x1_S1024x64_1_0_n_n_0_1_164 x i) : (⟨S1024x64, .f32⟩ : BufTy).Contents (Elt F) → (⟨S1024x1, .i32⟩ : BufTy).Contents (Elt F) → (⟨S1024x64, .f32⟩ : BufTy).Contents (Elt F)) ]

/-- Iteration 2: its operations up to the new weights. -/
abbrev it1 : List (HloOp τ sig (Elt F)) :=
  [ unary main_v47 main_v55 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v56 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v55 main_v57 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v56 main_v57 main_v58 (subf : (⟨S1024x1024x64, .f32⟩ : BufTy).Contents (Elt F) → (⟨S1024x1024x64, .f32⟩ : BufTy).Contents (Elt F) → (⟨S1024x1024x64, .f32⟩ : BufTy).Contents (Elt F)),
    binary main_v58 main_v58 main_v59 (mulf : (⟨S1024x1024x64, .f32⟩ : BufTy).Contents (Elt F) → (⟨S1024x1024x64, .f32⟩ : BufTy).Contents (Elt F) → (⟨S1024x1024x64, .f32⟩ : BufTy).Contents (Elt F)),
    nullary main_cst_10 (constant S_ .f32 0x00000000#32),
    binary main_v59 main_cst_10 main_v60 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    TRef.nullary (TRef.of (T := ⟨S1024x1024, .i32⟩) main_call2_v0) (iotaInDim S1024x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S1024x1024, .f32⟩) main_v60) (TRef.of (T := ⟨S1024x1024, .i32⟩) main_call2_v0) (TRef.of (T := ⟨S_, .f32⟩) main_call2_cst) (TRef.of (T := ⟨S_, .i32⟩) main_call2_c) (TRef.of (T := ⟨S1024, .f32⟩) main_call2_v1_0) (fun x y u v j => (Host.argReduce reducer_argmin_f32_i32 x y u v reducesTo_S1024x1024_S1024_d1 h_S_ j).1),
    TRef.quaternary (TRef.of (T := ⟨S1024x1024, .f32⟩) main_v60) (TRef.of (T := ⟨S1024x1024, .i32⟩) main_call2_v0) (TRef.of (T := ⟨S_, .f32⟩) main_call2_cst) (TRef.of (T := ⟨S_, .i32⟩) main_call2_c) (TRef.of (T := ⟨S1024, .i32⟩) main_v61) (fun x y u v j => (Host.argReduce reducer_argmin_f32_i32 x y u v reducesTo_S1024x1024_S1024_d1 h_S_ j).2),
    nullary main_c_11 (constantI S_ 32 0#32),
    unary main_c_11 main_v62 (broadcastInDim S1024 ![] bcast_S_S1024 : (⟨S_, .i32⟩ : BufTy).Contents (Elt F) → (⟨S1024, .i32⟩ : BufTy).Contents (Elt F)),
    binary main_v61 main_v62 main_v63 (cmpi .slt : (⟨S1024, .i32⟩ : BufTy).Contents (Elt F) → (⟨S1024, .i32⟩ : BufTy).Contents (Elt F) → (⟨S1024, .i1⟩ : BufTy).Contents (Elt F)),
    nullary main_c_12 (constantI S_ 32 1024#32),
    unary main_c_12 main_v64 (broadcastInDim S1024 ![] bcast_S_S1024 : (⟨S_, .i32⟩ : BufTy).Contents (Elt F) → (⟨S1024, .i32⟩ : BufTy).Contents (Elt F)),
    binary main_v61 main_v64 main_v65 (addi : (⟨S1024, .i32⟩ : BufTy).Contents (Elt F) → (⟨S1024, .i32⟩ : BufTy).Contents (Elt F) → (⟨S1024, .i32⟩ : BufTy).Contents (Elt F)),
    ternary main_v63 main_v65 main_v61 main_v66 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v66 main_v67 (broadcastInDim S1024x1 ![0] bcast_S1024_S1024x1_0 : (⟨S1024, .i32⟩ : BufTy).Contents (Elt F) → (⟨S1024x1, .i32⟩ : BufTy).Contents (Elt F)),
    binary main_arg2 main_v67 main_v68 ((fun x i => Host.gather gather_S1024x2_S1024x1_S1024x2_1_0_n_n_0_1_12 x i) : (⟨S1024x2, .i32⟩ : BufTy).Contents (Elt F) → (⟨S1024x1, .i32⟩ : BufTy).Contents (Elt F) → (⟨S1024x2, .i32⟩ : BufTy).Contents (Elt F)),
    unary main_v68 main_v69 (broadcastInDim S1024x1x2 ![0, 2] bcast_S1024x2_S1024x1x2_0_2 : (⟨S1024x2, .i32⟩ : BufTy).Contents (Elt F) → (⟨S1024x1x2, .i32⟩ : BufTy).Contents (Elt F)),
    unary main_arg2 main_v70 (broadcastInDim S1x1024x2 ![1, 2] bcast_S1024x2_S1x1024x2_1_2 : (⟨S1024x2, .i32⟩ : BufTy).Contents (Elt F) → (⟨S1x1024x2, .i32⟩ : BufTy).Contents (Elt F)),
    unary main_v70 main_v71 (broadcastInDim S1024x1024x2 ![0, 1, 2] bcast_S1x1024x2_S1024x1024x2_0_1_2 : (⟨S1x1024x2, .i32⟩ : BufTy).Contents (Elt F) → (⟨S1024x1024x2, .i32⟩ : BufTy).Contents (Elt F)),
    unary main_v69 main_v72 (broadcastInDim S1024x1024x2 ![0, 1, 2] bcast_S1024x1x2_S1024x1024x2_0_1_2 : (⟨S1024x1x2, .i32⟩ : BufTy).Contents (Elt F) → (⟨S1024x1024x2, .i32⟩ : BufTy).Contents (Elt F)),
    binary main_v71 main_v72 main_v73 (subi : (⟨S1024x1024x2, .i32⟩ : BufTy).Contents (Elt F) → (⟨S1024x1024x2, .i32⟩ : BufTy).Contents (Elt F) → (⟨S1024x1024x2, .i32⟩ : BufTy).Contents (Elt F)),
    binary main_v73 main_v73 main_v74 (muli : (⟨S1024x1024x2, .i32⟩ : BufTy).Contents (Elt F) → (⟨S1024x1024x2, .i32⟩ : BufTy).Contents (Elt F) → (⟨S1024x1024x2, .i32⟩ : BufTy).Contents (Elt F)),
    nullary main_c_13 (constantI S_ 32 0#32),
    binary main_v74 main_c_13 main_v75 ((fun x v => Host.reduce IntOp.addi x v reducesTo_S1024x1024x2_S1024x1024_d2 h_S_) : (⟨S1024x1024x2, .i32⟩ : BufTy).Contents (Elt F) → (⟨S_, .i32⟩ : BufTy).Contents (Elt F) → (⟨S1024x1024, .i32⟩ : BufTy).Contents (Elt F)),
    unary main_v75 main_v76 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v76 main_v77 (sitofp .f32 : (⟨S1024x1024x1, .i32⟩ : BufTy).Contents (Elt F) → (⟨S1024x1024x1, .f32⟩ : BufTy).Contents (Elt F)),
    nullary main_cst_14 (constant S_ .f32 0x42A8E5A3#32),
    unary main_cst_14 main_v78 (broadcastInDim S1024x1024x1 ![] bcast_S_S1024x1024x1 : (⟨S_, .f32⟩ : BufTy).Contents (Elt F) → (⟨S1024x1024x1, .f32⟩ : BufTy).Contents (Elt F)),
    binary main_v78 main_v77 main_v79 (subf : (⟨S1024x1024x1, .f32⟩ : BufTy).Contents (Elt F) → (⟨S1024x1024x1, .f32⟩ : BufTy).Contents (Elt F) → (⟨S1024x1024x1, .f32⟩ : BufTy).Contents (Elt F)),
    unary main_v79 main_v80 (Host.sign : (⟨S1024x1024x1, .f32⟩ : BufTy).Contents (Elt F) → (⟨S1024x1024x1, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1024x1024x1, .f32⟩) main_call3_v0) (broadcastInDim S1024x1024x1 ![] bcast_S_S1024x1024x1),
    TRef.binary (TRef.of (T := ⟨S1024x1024x1, .f32⟩) main_v80) (TRef.of (T := ⟨S1024x1024x1, .f32⟩) main_call3_v0) (TRef.of (T := ⟨S1024x1024x1, .f32⟩) main_v81) maximumf,
    unary main_v76 main_v82 (sitofp .f32 : (⟨S1024x1024x1, .i32⟩ : BufTy).Contents (Elt F) → (⟨S1024x1024x1, .f32⟩ : BufTy).Contents (Elt F)),
    nullary main_cst_15 (constant S_ .f32 0xBF000000#32),
    unary main_cst_15 main_v83 (broadcastInDim S1024x1024x1 ![] bcast_S_S1024x1024x1 : (⟨S_, .f32⟩ : BufTy).Contents (Elt F) → (⟨S1024x1024x1, .f32⟩ : BufTy).Contents (Elt F)),
    binary main_v83 main_v82 main_v84 (mulf : (⟨S1024x1024x1, .f32⟩ : BufTy).Contents (Elt F) → (⟨S1024x1024x1, .f32⟩ : BufTy).Contents (Elt F) → (⟨S1024x1024x1, .f32⟩ : BufTy).Contents (Elt F)),
    nullary main_cst_16 (constant S_ .f32 0x42A8E5A3#32),
    unary main_cst_16 main_v85 (broadcastInDim S1024x1024x1 ![] bcast_S_S1024x1024x1 : (⟨S_, .f32⟩ : BufTy).Contents (Elt F) → (⟨S1024x1024x1, .f32⟩ : BufTy).Contents (Elt F)),
    binary main_v84 main_v85 main_v86 (Host.divf : (⟨S1024x1024x1, .f32⟩ : BufTy).Contents (Elt F) → (⟨S1024x1024x1, .f32⟩ : BufTy).Contents (Elt F) → (⟨S1024x1024x1, .f32⟩ : BufTy).Contents (Elt F)),
    unary main_v86 main_v87 (Host.exp : (⟨S1024x1024x1, .f32⟩ : BufTy).Contents (Elt F) → (⟨S1024x1024x1, .f32⟩ : BufTy).Contents (Elt F)),
    nullary main_cst_17 (constant S_ .f32 0x3DA7AD12#32),
    unary main_cst_17 main_v88 (broadcastInDim S1024x1024x1 ![] bcast_S_S1024x1024x1 : (⟨S_, .f32⟩ : BufTy).Contents (Elt F) → (⟨S1024x1024x1, .f32⟩ : BufTy).Contents (Elt F)),
    binary main_v88 main_v87 main_v89 (mulf : (⟨S1024x1024x1, .f32⟩ : BufTy).Contents (Elt F) → (⟨S1024x1024x1, .f32⟩ : BufTy).Contents (Elt F) → (⟨S1024x1024x1, .f32⟩ : BufTy).Contents (Elt F)),
    binary main_v89 main_v81 main_v90 (mulf : (⟨S1024x1024x1, .f32⟩ : BufTy).Contents (Elt F) → (⟨S1024x1024x1, .f32⟩ : BufTy).Contents (Elt F) → (⟨S1024x1024x1, .f32⟩ : BufTy).Contents (Elt F)),
    unary main_v47 main_v91 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v92 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v91 main_v93 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v92 main_v93 main_v94 (subf : (⟨S1024x1024x64, .f32⟩ : BufTy).Contents (Elt F) → (⟨S1024x1024x64, .f32⟩ : BufTy).Contents (Elt F) → (⟨S1024x1024x64, .f32⟩ : BufTy).Contents (Elt F)),
    unary main_v90 main_v95 (id : (⟨S1024x1024x1, .f32⟩ : BufTy).Contents (Elt F) → (⟨S1024x1024x1, .f32⟩ : BufTy).Contents (Elt F)),
    unary main_v95 main_v96 (broadcastInDim S1024x1024x64 ![0, 1, 2] bcast_S1024x1024x1_S1024x1024x64_0_1_2 : (⟨S1024x1024x1, .f32⟩ : BufTy).Contents (Elt F) → (⟨S1024x1024x64, .f32⟩ : BufTy).Contents (Elt F)),
    binary main_v96 main_v94 main_v97 (mulf : (⟨S1024x1024x64, .f32⟩ : BufTy).Contents (Elt F) → (⟨S1024x1024x64, .f32⟩ : BufTy).Contents (Elt F) → (⟨S1024x1024x64, .f32⟩ : BufTy).Contents (Elt F)),
    nullary main_cst_18 (constant S_ .f32 0x00000000#32),
    binary main_v97 main_cst_18 main_v98 ((fun x v => Host.reduceAdd x v reducesTo_S1024x1024x64_S1024x64_d0 h_S_) : (⟨S1024x1024x64, .f32⟩ : BufTy).Contents (Elt F) → (⟨S_, .f32⟩ : BufTy).Contents (Elt F) → (⟨S1024x64, .f32⟩ : BufTy).Contents (Elt F)) ]

/-- Iteration 2: its operations up to the new weights, those of the next part. -/
abbrev it1b : List (HloOp τ sig (Elt F)) :=
  [ nullary main_cst_19 (constant S_ .f32 0x44800000#32),
    unary main_cst_19 main_v99 (broadcastInDim S1024x64 ![] bcast_S_S1024x64 : (⟨S_, .f32⟩ : BufTy).Contents (Elt F) → (⟨S1024x64, .f32⟩ : BufTy).Contents (Elt F)),
    binary main_v98 main_v99 main_v100 (Host.divf : (⟨S1024x64, .f32⟩ : BufTy).Contents (Elt F) → (⟨S1024x64, .f32⟩ : BufTy).Contents (Elt F) → (⟨S1024x64, .f32⟩ : BufTy).Contents (Elt F)),
    binary main_v47 main_v100 main_v101 (addf : (⟨S1024x64, .f32⟩ : BufTy).Contents (Elt F) → (⟨S1024x64, .f32⟩ : BufTy).Contents (Elt F) → (⟨S1024x64, .f32⟩ : BufTy).Contents (Elt F)) ]

/-- Iteration 2: the rows looked up in the new weights. -/
abbrev out1 : List (HloOp τ sig (Elt F)) :=
  [ nullary main_c_20 (constantI S_ 32 0#32),
    unary main_c_20 main_v102 (broadcastInDim S1024 ![] bcast_S_S1024 : (⟨S_, .i32⟩ : BufTy).Contents (Elt F) → (⟨S1024, .i32⟩ : BufTy).Contents (Elt F)),
    binary main_v61 main_v102 main_v103 (cmpi .slt : (⟨S1024, .i32⟩ : BufTy).Contents (Elt F) → (⟨S1024, .i32⟩ : BufTy).Contents (Elt F) → (⟨S1024, .i1⟩ : BufTy).Contents (Elt F)),
    nullary main_c_21 (constantI S_ 32 1024#32),
    unary main_c_21 main_v104 (broadcastInDim S1024 ![] bcast_S_S1024 : (⟨S_, .i32⟩ : BufTy).Contents (Elt F) → (⟨S1024, .i32⟩ : BufTy).Contents (Elt F)),
    binary main_v61 main_v104 main_v105 (addi : (⟨S1024, .i32⟩ : BufTy).Contents (Elt F) → (⟨S1024, .i32⟩ : BufTy).Contents (Elt F) → (⟨S1024, .i32⟩ : BufTy).Contents (Elt F)),
    ternary main_v103 main_v105 main_v61 main_v106 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v106 main_v107 (broadcastInDim S1024x1 ![0] bcast_S1024_S1024x1_0 : (⟨S1024, .i32⟩ : BufTy).Contents (Elt F) → (⟨S1024x1, .i32⟩ : BufTy).Contents (Elt F)),
    binary main_v101 main_v107 main_v108 ((fun x i => Host.gather gather_S1024x64_S1024x1_S1024x64_1_0_n_n_0_1_164 x i) : (⟨S1024x64, .f32⟩ : BufTy).Contents (Elt F) → (⟨S1024x1, .i32⟩ : BufTy).Contents (Elt F) → (⟨S1024x64, .f32⟩ : BufTy).Contents (Elt F)) ]

/-- Iteration 3: its operations up to the new weights. -/
abbrev it2 : List (HloOp τ sig (Elt F)) :=
  [ unary main_v101 main_v109 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v110 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v109 main_v111 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v110 main_v111 main_v112 (subf : (⟨S1024x1024x64, .f32⟩ : BufTy).Contents (Elt F) → (⟨S1024x1024x64, .f32⟩ : BufTy).Contents (Elt F) → (⟨S1024x1024x64, .f32⟩ : BufTy).Contents (Elt F)),
    binary main_v112 main_v112 main_v113 (mulf : (⟨S1024x1024x64, .f32⟩ : BufTy).Contents (Elt F) → (⟨S1024x1024x64, .f32⟩ : BufTy).Contents (Elt F) → (⟨S1024x1024x64, .f32⟩ : BufTy).Contents (Elt F)),
    nullary main_cst_22 (constant S_ .f32 0x00000000#32),
    binary main_v113 main_cst_22 main_v114 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    TRef.nullary (TRef.of (T := ⟨S1024x1024, .i32⟩) main_call4_v0) (iotaInDim S1024x1024 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S1024x1024, .f32⟩) main_v114) (TRef.of (T := ⟨S1024x1024, .i32⟩) main_call4_v0) (TRef.of (T := ⟨S_, .f32⟩) main_call4_cst) (TRef.of (T := ⟨S_, .i32⟩) main_call4_c) (TRef.of (T := ⟨S1024, .f32⟩) main_call4_v1_0) (fun x y u v j => (Host.argReduce reducer_argmin_f32_i32 x y u v reducesTo_S1024x1024_S1024_d1 h_S_ j).1),
    TRef.quaternary (TRef.of (T := ⟨S1024x1024, .f32⟩) main_v114) (TRef.of (T := ⟨S1024x1024, .i32⟩) main_call4_v0) (TRef.of (T := ⟨S_, .f32⟩) main_call4_cst) (TRef.of (T := ⟨S_, .i32⟩) main_call4_c) (TRef.of (T := ⟨S1024, .i32⟩) main_v115) (fun x y u v j => (Host.argReduce reducer_argmin_f32_i32 x y u v reducesTo_S1024x1024_S1024_d1 h_S_ j).2),
    nullary main_c_23 (constantI S_ 32 0#32),
    unary main_c_23 main_v116 (broadcastInDim S1024 ![] bcast_S_S1024 : (⟨S_, .i32⟩ : BufTy).Contents (Elt F) → (⟨S1024, .i32⟩ : BufTy).Contents (Elt F)),
    binary main_v115 main_v116 main_v117 (cmpi .slt : (⟨S1024, .i32⟩ : BufTy).Contents (Elt F) → (⟨S1024, .i32⟩ : BufTy).Contents (Elt F) → (⟨S1024, .i1⟩ : BufTy).Contents (Elt F)),
    nullary main_c_24 (constantI S_ 32 1024#32),
    unary main_c_24 main_v118 (broadcastInDim S1024 ![] bcast_S_S1024 : (⟨S_, .i32⟩ : BufTy).Contents (Elt F) → (⟨S1024, .i32⟩ : BufTy).Contents (Elt F)),
    binary main_v115 main_v118 main_v119 (addi : (⟨S1024, .i32⟩ : BufTy).Contents (Elt F) → (⟨S1024, .i32⟩ : BufTy).Contents (Elt F) → (⟨S1024, .i32⟩ : BufTy).Contents (Elt F)),
    ternary main_v117 main_v119 main_v115 main_v120 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v120 main_v121 (broadcastInDim S1024x1 ![0] bcast_S1024_S1024x1_0 : (⟨S1024, .i32⟩ : BufTy).Contents (Elt F) → (⟨S1024x1, .i32⟩ : BufTy).Contents (Elt F)),
    binary main_arg2 main_v121 main_v122 ((fun x i => Host.gather gather_S1024x2_S1024x1_S1024x2_1_0_n_n_0_1_12 x i) : (⟨S1024x2, .i32⟩ : BufTy).Contents (Elt F) → (⟨S1024x1, .i32⟩ : BufTy).Contents (Elt F) → (⟨S1024x2, .i32⟩ : BufTy).Contents (Elt F)),
    unary main_v122 main_v123 (broadcastInDim S1024x1x2 ![0, 2] bcast_S1024x2_S1024x1x2_0_2 : (⟨S1024x2, .i32⟩ : BufTy).Contents (Elt F) → (⟨S1024x1x2, .i32⟩ : BufTy).Contents (Elt F)),
    unary main_arg2 main_v124 (broadcastInDim S1x1024x2 ![1, 2] bcast_S1024x2_S1x1024x2_1_2 : (⟨S1024x2, .i32⟩ : BufTy).Contents (Elt F) → (⟨S1x1024x2, .i32⟩ : BufTy).Contents (Elt F)),
    unary main_v124 main_v125 (broadcastInDim S1024x1024x2 ![0, 1, 2] bcast_S1x1024x2_S1024x1024x2_0_1_2 : (⟨S1x1024x2, .i32⟩ : BufTy).Contents (Elt F) → (⟨S1024x1024x2, .i32⟩ : BufTy).Contents (Elt F)),
    unary main_v123 main_v126 (broadcastInDim S1024x1024x2 ![0, 1, 2] bcast_S1024x1x2_S1024x1024x2_0_1_2 : (⟨S1024x1x2, .i32⟩ : BufTy).Contents (Elt F) → (⟨S1024x1024x2, .i32⟩ : BufTy).Contents (Elt F)),
    binary main_v125 main_v126 main_v127 (subi : (⟨S1024x1024x2, .i32⟩ : BufTy).Contents (Elt F) → (⟨S1024x1024x2, .i32⟩ : BufTy).Contents (Elt F) → (⟨S1024x1024x2, .i32⟩ : BufTy).Contents (Elt F)),
    binary main_v127 main_v127 main_v128 (muli : (⟨S1024x1024x2, .i32⟩ : BufTy).Contents (Elt F) → (⟨S1024x1024x2, .i32⟩ : BufTy).Contents (Elt F) → (⟨S1024x1024x2, .i32⟩ : BufTy).Contents (Elt F)),
    nullary main_c_25 (constantI S_ 32 0#32),
    binary main_v128 main_c_25 main_v129 ((fun x v => Host.reduce IntOp.addi x v reducesTo_S1024x1024x2_S1024x1024_d2 h_S_) : (⟨S1024x1024x2, .i32⟩ : BufTy).Contents (Elt F) → (⟨S_, .i32⟩ : BufTy).Contents (Elt F) → (⟨S1024x1024, .i32⟩ : BufTy).Contents (Elt F)),
    unary main_v129 main_v130 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v130 main_v131 (sitofp .f32 : (⟨S1024x1024x1, .i32⟩ : BufTy).Contents (Elt F) → (⟨S1024x1024x1, .f32⟩ : BufTy).Contents (Elt F)),
    nullary main_cst_26 (constant S_ .f32 0x41DEDC67#32),
    unary main_cst_26 main_v132 (broadcastInDim S1024x1024x1 ![] bcast_S_S1024x1024x1 : (⟨S_, .f32⟩ : BufTy).Contents (Elt F) → (⟨S1024x1024x1, .f32⟩ : BufTy).Contents (Elt F)),
    binary main_v132 main_v131 main_v133 (subf : (⟨S1024x1024x1, .f32⟩ : BufTy).Contents (Elt F) → (⟨S1024x1024x1, .f32⟩ : BufTy).Contents (Elt F) → (⟨S1024x1024x1, .f32⟩ : BufTy).Contents (Elt F)),
    unary main_v133 main_v134 (Host.sign : (⟨S1024x1024x1, .f32⟩ : BufTy).Contents (Elt F) → (⟨S1024x1024x1, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1024x1024x1, .f32⟩) main_call5_v0) (broadcastInDim S1024x1024x1 ![] bcast_S_S1024x1024x1),
    TRef.binary (TRef.of (T := ⟨S1024x1024x1, .f32⟩) main_v134) (TRef.of (T := ⟨S1024x1024x1, .f32⟩) main_call5_v0) (TRef.of (T := ⟨S1024x1024x1, .f32⟩) main_v135) maximumf,
    unary main_v130 main_v136 (sitofp .f32 : (⟨S1024x1024x1, .i32⟩ : BufTy).Contents (Elt F) → (⟨S1024x1024x1, .f32⟩ : BufTy).Contents (Elt F)),
    nullary main_cst_27 (constant S_ .f32 0xBF000000#32),
    unary main_cst_27 main_v137 (broadcastInDim S1024x1024x1 ![] bcast_S_S1024x1024x1 : (⟨S_, .f32⟩ : BufTy).Contents (Elt F) → (⟨S1024x1024x1, .f32⟩ : BufTy).Contents (Elt F)),
    binary main_v137 main_v136 main_v138 (mulf : (⟨S1024x1024x1, .f32⟩ : BufTy).Contents (Elt F) → (⟨S1024x1024x1, .f32⟩ : BufTy).Contents (Elt F) → (⟨S1024x1024x1, .f32⟩ : BufTy).Contents (Elt F)),
    nullary main_cst_28 (constant S_ .f32 0x41DEDC67#32),
    unary main_cst_28 main_v139 (broadcastInDim S1024x1024x1 ![] bcast_S_S1024x1024x1 : (⟨S_, .f32⟩ : BufTy).Contents (Elt F) → (⟨S1024x1024x1, .f32⟩ : BufTy).Contents (Elt F)),
    binary main_v138 main_v139 main_v140 (Host.divf : (⟨S1024x1024x1, .f32⟩ : BufTy).Contents (Elt F) → (⟨S1024x1024x1, .f32⟩ : BufTy).Contents (Elt F) → (⟨S1024x1024x1, .f32⟩ : BufTy).Contents (Elt F)),
    unary main_v140 main_v141 (Host.exp : (⟨S1024x1024x1, .f32⟩ : BufTy).Contents (Elt F) → (⟨S1024x1024x1, .f32⟩ : BufTy).Contents (Elt F)),
    nullary main_cst_29 (constant S_ .f32 0x3D894813#32),
    unary main_cst_29 main_v142 (broadcastInDim S1024x1024x1 ![] bcast_S_S1024x1024x1 : (⟨S_, .f32⟩ : BufTy).Contents (Elt F) → (⟨S1024x1024x1, .f32⟩ : BufTy).Contents (Elt F)),
    binary main_v142 main_v141 main_v143 (mulf : (⟨S1024x1024x1, .f32⟩ : BufTy).Contents (Elt F) → (⟨S1024x1024x1, .f32⟩ : BufTy).Contents (Elt F) → (⟨S1024x1024x1, .f32⟩ : BufTy).Contents (Elt F)),
    binary main_v143 main_v135 main_v144 (mulf : (⟨S1024x1024x1, .f32⟩ : BufTy).Contents (Elt F) → (⟨S1024x1024x1, .f32⟩ : BufTy).Contents (Elt F) → (⟨S1024x1024x1, .f32⟩ : BufTy).Contents (Elt F)),
    unary main_v101 main_v145 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v146 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v145 main_v147 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)) ]

/-- Iteration 3: its operations up to the new weights, those of the next part. -/
abbrev it2b : List (HloOp τ sig (Elt F)) :=
  [ binary main_v146 main_v147 main_v148 (subf : (⟨S1024x1024x64, .f32⟩ : BufTy).Contents (Elt F) → (⟨S1024x1024x64, .f32⟩ : BufTy).Contents (Elt F) → (⟨S1024x1024x64, .f32⟩ : BufTy).Contents (Elt F)),
    unary main_v144 main_v149 (id : (⟨S1024x1024x1, .f32⟩ : BufTy).Contents (Elt F) → (⟨S1024x1024x1, .f32⟩ : BufTy).Contents (Elt F)),
    unary main_v149 main_v150 (broadcastInDim S1024x1024x64 ![0, 1, 2] bcast_S1024x1024x1_S1024x1024x64_0_1_2 : (⟨S1024x1024x1, .f32⟩ : BufTy).Contents (Elt F) → (⟨S1024x1024x64, .f32⟩ : BufTy).Contents (Elt F)),
    binary main_v150 main_v148 main_v151 (mulf : (⟨S1024x1024x64, .f32⟩ : BufTy).Contents (Elt F) → (⟨S1024x1024x64, .f32⟩ : BufTy).Contents (Elt F) → (⟨S1024x1024x64, .f32⟩ : BufTy).Contents (Elt F)),
    nullary main_cst_30 (constant S_ .f32 0x00000000#32),
    binary main_v151 main_cst_30 main_v152 ((fun x v => Host.reduceAdd x v reducesTo_S1024x1024x64_S1024x64_d0 h_S_) : (⟨S1024x1024x64, .f32⟩ : BufTy).Contents (Elt F) → (⟨S_, .f32⟩ : BufTy).Contents (Elt F) → (⟨S1024x64, .f32⟩ : BufTy).Contents (Elt F)),
    nullary main_cst_31 (constant S_ .f32 0x44800000#32),
    unary main_cst_31 main_v153 (broadcastInDim S1024x64 ![] bcast_S_S1024x64 : (⟨S_, .f32⟩ : BufTy).Contents (Elt F) → (⟨S1024x64, .f32⟩ : BufTy).Contents (Elt F)),
    binary main_v152 main_v153 main_v154 (Host.divf : (⟨S1024x64, .f32⟩ : BufTy).Contents (Elt F) → (⟨S1024x64, .f32⟩ : BufTy).Contents (Elt F) → (⟨S1024x64, .f32⟩ : BufTy).Contents (Elt F)),
    binary main_v101 main_v154 main_v155 (addf : (⟨S1024x64, .f32⟩ : BufTy).Contents (Elt F) → (⟨S1024x64, .f32⟩ : BufTy).Contents (Elt F) → (⟨S1024x64, .f32⟩ : BufTy).Contents (Elt F)) ]

/-- Iteration 3: the rows looked up in the new weights. -/
abbrev out2 : List (HloOp τ sig (Elt F)) :=
  [ nullary main_c_32 (constantI S_ 32 0#32),
    unary main_c_32 main_v156 (broadcastInDim S1024 ![] bcast_S_S1024 : (⟨S_, .i32⟩ : BufTy).Contents (Elt F) → (⟨S1024, .i32⟩ : BufTy).Contents (Elt F)),
    binary main_v115 main_v156 main_v157 (cmpi .slt : (⟨S1024, .i32⟩ : BufTy).Contents (Elt F) → (⟨S1024, .i32⟩ : BufTy).Contents (Elt F) → (⟨S1024, .i1⟩ : BufTy).Contents (Elt F)),
    nullary main_c_33 (constantI S_ 32 1024#32),
    unary main_c_33 main_v158 (broadcastInDim S1024 ![] bcast_S_S1024 : (⟨S_, .i32⟩ : BufTy).Contents (Elt F) → (⟨S1024, .i32⟩ : BufTy).Contents (Elt F)),
    binary main_v115 main_v158 main_v159 (addi : (⟨S1024, .i32⟩ : BufTy).Contents (Elt F) → (⟨S1024, .i32⟩ : BufTy).Contents (Elt F) → (⟨S1024, .i32⟩ : BufTy).Contents (Elt F)),
    ternary main_v157 main_v159 main_v115 main_v160 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v160 main_v161 (broadcastInDim S1024x1 ![0] bcast_S1024_S1024x1_0 : (⟨S1024, .i32⟩ : BufTy).Contents (Elt F) → (⟨S1024x1, .i32⟩ : BufTy).Contents (Elt F)),
    binary main_v155 main_v161 main_v162 ((fun x i => Host.gather gather_S1024x64_S1024x1_S1024x64_1_0_n_n_0_1_164 x i) : (⟨S1024x64, .f32⟩ : BufTy).Contents (Elt F) → (⟨S1024x1, .i32⟩ : BufTy).Contents (Elt F) → (⟨S1024x64, .f32⟩ : BufTy).Contents (Elt F)) ]

/-- Iteration 4: its operations up to the new weights. -/
abbrev it3 : List (HloOp τ sig (Elt F)) :=
  [ unary main_v155 main_v163 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v164 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v163 main_v165 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v164 main_v165 main_v166 (subf : (⟨S1024x1024x64, .f32⟩ : BufTy).Contents (Elt F) → (⟨S1024x1024x64, .f32⟩ : BufTy).Contents (Elt F) → (⟨S1024x1024x64, .f32⟩ : BufTy).Contents (Elt F)),
    binary main_v166 main_v166 main_v167 (mulf : (⟨S1024x1024x64, .f32⟩ : BufTy).Contents (Elt F) → (⟨S1024x1024x64, .f32⟩ : BufTy).Contents (Elt F) → (⟨S1024x1024x64, .f32⟩ : BufTy).Contents (Elt F)),
    nullary main_cst_34 (constant S_ .f32 0x00000000#32),
    binary main_v167 main_cst_34 main_v168 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    TRef.nullary (TRef.of (T := ⟨S1024x1024, .i32⟩) main_call6_v0) (iotaInDim S1024x1024 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S1024x1024, .f32⟩) main_v168) (TRef.of (T := ⟨S1024x1024, .i32⟩) main_call6_v0) (TRef.of (T := ⟨S_, .f32⟩) main_call6_cst) (TRef.of (T := ⟨S_, .i32⟩) main_call6_c) (TRef.of (T := ⟨S1024, .f32⟩) main_call6_v1_0) (fun x y u v j => (Host.argReduce reducer_argmin_f32_i32 x y u v reducesTo_S1024x1024_S1024_d1 h_S_ j).1),
    TRef.quaternary (TRef.of (T := ⟨S1024x1024, .f32⟩) main_v168) (TRef.of (T := ⟨S1024x1024, .i32⟩) main_call6_v0) (TRef.of (T := ⟨S_, .f32⟩) main_call6_cst) (TRef.of (T := ⟨S_, .i32⟩) main_call6_c) (TRef.of (T := ⟨S1024, .i32⟩) main_v169) (fun x y u v j => (Host.argReduce reducer_argmin_f32_i32 x y u v reducesTo_S1024x1024_S1024_d1 h_S_ j).2),
    nullary main_c_35 (constantI S_ 32 0#32),
    unary main_c_35 main_v170 (broadcastInDim S1024 ![] bcast_S_S1024 : (⟨S_, .i32⟩ : BufTy).Contents (Elt F) → (⟨S1024, .i32⟩ : BufTy).Contents (Elt F)),
    binary main_v169 main_v170 main_v171 (cmpi .slt : (⟨S1024, .i32⟩ : BufTy).Contents (Elt F) → (⟨S1024, .i32⟩ : BufTy).Contents (Elt F) → (⟨S1024, .i1⟩ : BufTy).Contents (Elt F)),
    nullary main_c_36 (constantI S_ 32 1024#32),
    unary main_c_36 main_v172 (broadcastInDim S1024 ![] bcast_S_S1024 : (⟨S_, .i32⟩ : BufTy).Contents (Elt F) → (⟨S1024, .i32⟩ : BufTy).Contents (Elt F)),
    binary main_v169 main_v172 main_v173 (addi : (⟨S1024, .i32⟩ : BufTy).Contents (Elt F) → (⟨S1024, .i32⟩ : BufTy).Contents (Elt F) → (⟨S1024, .i32⟩ : BufTy).Contents (Elt F)),
    ternary main_v171 main_v173 main_v169 main_v174 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v174 main_v175 (broadcastInDim S1024x1 ![0] bcast_S1024_S1024x1_0 : (⟨S1024, .i32⟩ : BufTy).Contents (Elt F) → (⟨S1024x1, .i32⟩ : BufTy).Contents (Elt F)),
    binary main_arg2 main_v175 main_v176 ((fun x i => Host.gather gather_S1024x2_S1024x1_S1024x2_1_0_n_n_0_1_12 x i) : (⟨S1024x2, .i32⟩ : BufTy).Contents (Elt F) → (⟨S1024x1, .i32⟩ : BufTy).Contents (Elt F) → (⟨S1024x2, .i32⟩ : BufTy).Contents (Elt F)),
    unary main_v176 main_v177 (broadcastInDim S1024x1x2 ![0, 2] bcast_S1024x2_S1024x1x2_0_2 : (⟨S1024x2, .i32⟩ : BufTy).Contents (Elt F) → (⟨S1024x1x2, .i32⟩ : BufTy).Contents (Elt F)),
    unary main_arg2 main_v178 (broadcastInDim S1x1024x2 ![1, 2] bcast_S1024x2_S1x1024x2_1_2 : (⟨S1024x2, .i32⟩ : BufTy).Contents (Elt F) → (⟨S1x1024x2, .i32⟩ : BufTy).Contents (Elt F)),
    unary main_v178 main_v179 (broadcastInDim S1024x1024x2 ![0, 1, 2] bcast_S1x1024x2_S1024x1024x2_0_1_2 : (⟨S1x1024x2, .i32⟩ : BufTy).Contents (Elt F) → (⟨S1024x1024x2, .i32⟩ : BufTy).Contents (Elt F)),
    unary main_v177 main_v180 (broadcastInDim S1024x1024x2 ![0, 1, 2] bcast_S1024x1x2_S1024x1024x2_0_1_2 : (⟨S1024x1x2, .i32⟩ : BufTy).Contents (Elt F) → (⟨S1024x1024x2, .i32⟩ : BufTy).Contents (Elt F)),
    binary main_v179 main_v180 main_v181 (subi : (⟨S1024x1024x2, .i32⟩ : BufTy).Contents (Elt F) → (⟨S1024x1024x2, .i32⟩ : BufTy).Contents (Elt F) → (⟨S1024x1024x2, .i32⟩ : BufTy).Contents (Elt F)),
    binary main_v181 main_v181 main_v182 (muli : (⟨S1024x1024x2, .i32⟩ : BufTy).Contents (Elt F) → (⟨S1024x1024x2, .i32⟩ : BufTy).Contents (Elt F) → (⟨S1024x1024x2, .i32⟩ : BufTy).Contents (Elt F)),
    nullary main_c_37 (constantI S_ 32 0#32),
    binary main_v182 main_c_37 main_v183 ((fun x v => Host.reduce IntOp.addi x v reducesTo_S1024x1024x2_S1024x1024_d2 h_S_) : (⟨S1024x1024x2, .i32⟩ : BufTy).Contents (Elt F) → (⟨S_, .i32⟩ : BufTy).Contents (Elt F) → (⟨S1024x1024, .i32⟩ : BufTy).Contents (Elt F)),
    unary main_v183 main_v184 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v184 main_v185 (sitofp .f32 : (⟨S1024x1024x1, .i32⟩ : BufTy).Contents (Elt F) → (⟨S1024x1024x1, .f32⟩ : BufTy).Contents (Elt F)),
    nullary main_cst_38 (constant S_ .f32 0x4113088C#32),
    unary main_cst_38 main_v186 (broadcastInDim S1024x1024x1 ![] bcast_S_S1024x1024x1 : (⟨S_, .f32⟩ : BufTy).Contents (Elt F) → (⟨S1024x1024x1, .f32⟩ : BufTy).Contents (Elt F)),
    binary main_v186 main_v185 main_v187 (subf : (⟨S1024x1024x1, .f32⟩ : BufTy).Contents (Elt F) → (⟨S1024x1024x1, .f32⟩ : BufTy).Contents (Elt F) → (⟨S1024x1024x1, .f32⟩ : BufTy).Contents (Elt F)),
    unary main_v187 main_v188 (Host.sign : (⟨S1024x1024x1, .f32⟩ : BufTy).Contents (Elt F) → (⟨S1024x1024x1, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1024x1024x1, .f32⟩) main_call7_v0) (broadcastInDim S1024x1024x1 ![] bcast_S_S1024x1024x1),
    TRef.binary (TRef.of (T := ⟨S1024x1024x1, .f32⟩) main_v188) (TRef.of (T := ⟨S1024x1024x1, .f32⟩) main_call7_v0) (TRef.of (T := ⟨S1024x1024x1, .f32⟩) main_v189) maximumf,
    unary main_v184 main_v190 (sitofp .f32 : (⟨S1024x1024x1, .i32⟩ : BufTy).Contents (Elt F) → (⟨S1024x1024x1, .f32⟩ : BufTy).Contents (Elt F)),
    nullary main_cst_39 (constant S_ .f32 0xBF000000#32),
    unary main_cst_39 main_v191 (broadcastInDim S1024x1024x1 ![] bcast_S_S1024x1024x1 : (⟨S_, .f32⟩ : BufTy).Contents (Elt F) → (⟨S1024x1024x1, .f32⟩ : BufTy).Contents (Elt F)),
    binary main_v191 main_v190 main_v192 (mulf : (⟨S1024x1024x1, .f32⟩ : BufTy).Contents (Elt F) → (⟨S1024x1024x1, .f32⟩ : BufTy).Contents (Elt F) → (⟨S1024x1024x1, .f32⟩ : BufTy).Contents (Elt F)),
    nullary main_cst_40 (constant S_ .f32 0x4113088C#32),
    unary main_cst_40 main_v193 (broadcastInDim S1024x1024x1 ![] bcast_S_S1024x1024x1 : (⟨S_, .f32⟩ : BufTy).Contents (Elt F) → (⟨S1024x1024x1, .f32⟩ : BufTy).Contents (Elt F)),
    binary main_v192 main_v193 main_v194 (Host.divf : (⟨S1024x1024x1, .f32⟩ : BufTy).Contents (Elt F) → (⟨S1024x1024x1, .f32⟩ : BufTy).Contents (Elt F) → (⟨S1024x1024x1, .f32⟩ : BufTy).Contents (Elt F)),
    unary main_v194 main_v195 (Host.exp : (⟨S1024x1024x1, .f32⟩ : BufTy).Contents (Elt F) → (⟨S1024x1024x1, .f32⟩ : BufTy).Contents (Elt F)),
    nullary main_cst_41 (constant S_ .f32 0x3D60CB12#32) ]

/-- Iteration 4: its operations up to the new weights, those of the next part. -/
abbrev it3b : List (HloOp τ sig (Elt F)) :=
  [ unary main_cst_41 main_v196 (broadcastInDim S1024x1024x1 ![] bcast_S_S1024x1024x1 : (⟨S_, .f32⟩ : BufTy).Contents (Elt F) → (⟨S1024x1024x1, .f32⟩ : BufTy).Contents (Elt F)),
    binary main_v196 main_v195 main_v197 (mulf : (⟨S1024x1024x1, .f32⟩ : BufTy).Contents (Elt F) → (⟨S1024x1024x1, .f32⟩ : BufTy).Contents (Elt F) → (⟨S1024x1024x1, .f32⟩ : BufTy).Contents (Elt F)),
    binary main_v197 main_v189 main_v198 (mulf : (⟨S1024x1024x1, .f32⟩ : BufTy).Contents (Elt F) → (⟨S1024x1024x1, .f32⟩ : BufTy).Contents (Elt F) → (⟨S1024x1024x1, .f32⟩ : BufTy).Contents (Elt F)),
    unary main_v155 main_v199 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v200 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v199 main_v201 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v200 main_v201 main_v202 (subf : (⟨S1024x1024x64, .f32⟩ : BufTy).Contents (Elt F) → (⟨S1024x1024x64, .f32⟩ : BufTy).Contents (Elt F) → (⟨S1024x1024x64, .f32⟩ : BufTy).Contents (Elt F)),
    unary main_v198 main_v203 (id : (⟨S1024x1024x1, .f32⟩ : BufTy).Contents (Elt F) → (⟨S1024x1024x1, .f32⟩ : BufTy).Contents (Elt F)),
    unary main_v203 main_v204 (broadcastInDim S1024x1024x64 ![0, 1, 2] bcast_S1024x1024x1_S1024x1024x64_0_1_2 : (⟨S1024x1024x1, .f32⟩ : BufTy).Contents (Elt F) → (⟨S1024x1024x64, .f32⟩ : BufTy).Contents (Elt F)),
    binary main_v204 main_v202 main_v205 (mulf : (⟨S1024x1024x64, .f32⟩ : BufTy).Contents (Elt F) → (⟨S1024x1024x64, .f32⟩ : BufTy).Contents (Elt F) → (⟨S1024x1024x64, .f32⟩ : BufTy).Contents (Elt F)),
    nullary main_cst_42 (constant S_ .f32 0x00000000#32),
    binary main_v205 main_cst_42 main_v206 ((fun x v => Host.reduceAdd x v reducesTo_S1024x1024x64_S1024x64_d0 h_S_) : (⟨S1024x1024x64, .f32⟩ : BufTy).Contents (Elt F) → (⟨S_, .f32⟩ : BufTy).Contents (Elt F) → (⟨S1024x64, .f32⟩ : BufTy).Contents (Elt F)),
    nullary main_cst_43 (constant S_ .f32 0x44800000#32),
    unary main_cst_43 main_v207 (broadcastInDim S1024x64 ![] bcast_S_S1024x64 : (⟨S_, .f32⟩ : BufTy).Contents (Elt F) → (⟨S1024x64, .f32⟩ : BufTy).Contents (Elt F)),
    binary main_v206 main_v207 main_v208 (Host.divf : (⟨S1024x64, .f32⟩ : BufTy).Contents (Elt F) → (⟨S1024x64, .f32⟩ : BufTy).Contents (Elt F) → (⟨S1024x64, .f32⟩ : BufTy).Contents (Elt F)),
    binary main_v155 main_v208 main_v209 (addf : (⟨S1024x64, .f32⟩ : BufTy).Contents (Elt F) → (⟨S1024x64, .f32⟩ : BufTy).Contents (Elt F) → (⟨S1024x64, .f32⟩ : BufTy).Contents (Elt F)) ]

/-- Iteration 4: the rows looked up in the new weights. -/
abbrev out3 : List (HloOp τ sig (Elt F)) :=
  [ nullary main_c_44 (constantI S_ 32 0#32),
    unary main_c_44 main_v210 (broadcastInDim S1024 ![] bcast_S_S1024 : (⟨S_, .i32⟩ : BufTy).Contents (Elt F) → (⟨S1024, .i32⟩ : BufTy).Contents (Elt F)),
    binary main_v169 main_v210 main_v211 (cmpi .slt : (⟨S1024, .i32⟩ : BufTy).Contents (Elt F) → (⟨S1024, .i32⟩ : BufTy).Contents (Elt F) → (⟨S1024, .i1⟩ : BufTy).Contents (Elt F)),
    nullary main_c_45 (constantI S_ 32 1024#32),
    unary main_c_45 main_v212 (broadcastInDim S1024 ![] bcast_S_S1024 : (⟨S_, .i32⟩ : BufTy).Contents (Elt F) → (⟨S1024, .i32⟩ : BufTy).Contents (Elt F)),
    binary main_v169 main_v212 main_v213 (addi : (⟨S1024, .i32⟩ : BufTy).Contents (Elt F) → (⟨S1024, .i32⟩ : BufTy).Contents (Elt F) → (⟨S1024, .i32⟩ : BufTy).Contents (Elt F)),
    ternary main_v211 main_v213 main_v169 main_v214 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v214 main_v215 (broadcastInDim S1024x1 ![0] bcast_S1024_S1024x1_0 : (⟨S1024, .i32⟩ : BufTy).Contents (Elt F) → (⟨S1024x1, .i32⟩ : BufTy).Contents (Elt F)),
    binary main_v209 main_v215 main_v216 ((fun x i => Host.gather gather_S1024x64_S1024x1_S1024x64_1_0_n_n_0_1_164 x i) : (⟨S1024x64, .f32⟩ : BufTy).Contents (Elt F) → (⟨S1024x1, .i32⟩ : BufTy).Contents (Elt F) → (⟨S1024x64, .f32⟩ : BufTy).Contents (Elt F)) ]

/-- Iteration 5: its operations up to the new weights. -/
abbrev it4 : List (HloOp τ sig (Elt F)) :=
  [ unary main_v209 main_v217 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v218 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v217 main_v219 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v218 main_v219 main_v220 (subf : (⟨S1024x1024x64, .f32⟩ : BufTy).Contents (Elt F) → (⟨S1024x1024x64, .f32⟩ : BufTy).Contents (Elt F) → (⟨S1024x1024x64, .f32⟩ : BufTy).Contents (Elt F)),
    binary main_v220 main_v220 main_v221 (mulf : (⟨S1024x1024x64, .f32⟩ : BufTy).Contents (Elt F) → (⟨S1024x1024x64, .f32⟩ : BufTy).Contents (Elt F) → (⟨S1024x1024x64, .f32⟩ : BufTy).Contents (Elt F)),
    nullary main_cst_46 (constant S_ .f32 0x00000000#32),
    binary main_v221 main_cst_46 main_v222 ((fun x v => Host.reduceAdd x v reducesTo_S1024x1024x64_S1024x1024_d2 h_S_) : (⟨S1024x1024x64, .f32⟩ : BufTy).Contents (Elt F) → (⟨S_, .f32⟩ : BufTy).Contents (Elt F) → (⟨S1024x1024, .f32⟩ : BufTy).Contents (Elt F)),
    TRef.nullary (TRef.of (T := ⟨S1024x1024, .i32⟩) main_call8_v0) (iotaInDim S1024x1024 32 1),
    TRef.nullary (TRef.of (T := ⟨S_, .f32⟩) main_call8_cst) (constant S_ .f32 0x7F800000#32),
    TRef.nullary (TRef.of (T := ⟨S_, .i32⟩) main_call8_c) (constantI S_ 32 0#32),
    TRef.quaternary (TRef.of (T := ⟨S1024x1024, .f32⟩) main_v222) (TRef.of (T := ⟨S1024x1024, .i32⟩) main_call8_v0) (TRef.of (T := ⟨S_, .f32⟩) main_call8_cst) (TRef.of (T := ⟨S_, .i32⟩) main_call8_c) (TRef.of (T := ⟨S1024, .f32⟩) main_call8_v1_0) (fun x y u v j => (Host.argReduce reducer_argmin_f32_i32 x y u v reducesTo_S1024x1024_S1024_d1 h_S_ j).1),
    TRef.quaternary (TRef.of (T := ⟨S1024x1024, .f32⟩) main_v222) (TRef.of (T := ⟨S1024x1024, .i32⟩) main_call8_v0) (TRef.of (T := ⟨S_, .f32⟩) main_call8_cst) (TRef.of (T := ⟨S_, .i32⟩) main_call8_c) (TRef.of (T := ⟨S1024, .i32⟩) main_v223) (fun x y u v j => (Host.argReduce reducer_argmin_f32_i32 x y u v reducesTo_S1024x1024_S1024_d1 h_S_ j).2),
    nullary main_c_47 (constantI S_ 32 0#32),
    unary main_c_47 main_v224 (broadcastInDim S1024 ![] bcast_S_S1024 : (⟨S_, .i32⟩ : BufTy).Contents (Elt F) → (⟨S1024, .i32⟩ : BufTy).Contents (Elt F)),
    binary main_v223 main_v224 main_v225 (cmpi .slt : (⟨S1024, .i32⟩ : BufTy).Contents (Elt F) → (⟨S1024, .i32⟩ : BufTy).Contents (Elt F) → (⟨S1024, .i1⟩ : BufTy).Contents (Elt F)),
    nullary main_c_48 (constantI S_ 32 1024#32),
    unary main_c_48 main_v226 (broadcastInDim S1024 ![] bcast_S_S1024 : (⟨S_, .i32⟩ : BufTy).Contents (Elt F) → (⟨S1024, .i32⟩ : BufTy).Contents (Elt F)),
    binary main_v223 main_v226 main_v227 (addi : (⟨S1024, .i32⟩ : BufTy).Contents (Elt F) → (⟨S1024, .i32⟩ : BufTy).Contents (Elt F) → (⟨S1024, .i32⟩ : BufTy).Contents (Elt F)),
    ternary main_v225 main_v227 main_v223 main_v228 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v228 main_v229 (broadcastInDim S1024x1 ![0] bcast_S1024_S1024x1_0 : (⟨S1024, .i32⟩ : BufTy).Contents (Elt F) → (⟨S1024x1, .i32⟩ : BufTy).Contents (Elt F)),
    binary main_arg2 main_v229 main_v230 ((fun x i => Host.gather gather_S1024x2_S1024x1_S1024x2_1_0_n_n_0_1_12 x i) : (⟨S1024x2, .i32⟩ : BufTy).Contents (Elt F) → (⟨S1024x1, .i32⟩ : BufTy).Contents (Elt F) → (⟨S1024x2, .i32⟩ : BufTy).Contents (Elt F)),
    unary main_v230 main_v231 (broadcastInDim S1024x1x2 ![0, 2] bcast_S1024x2_S1024x1x2_0_2 : (⟨S1024x2, .i32⟩ : BufTy).Contents (Elt F) → (⟨S1024x1x2, .i32⟩ : BufTy).Contents (Elt F)),
    unary main_arg2 main_v232 (broadcastInDim S1x1024x2 ![1, 2] bcast_S1024x2_S1x1024x2_1_2 : (⟨S1024x2, .i32⟩ : BufTy).Contents (Elt F) → (⟨S1x1024x2, .i32⟩ : BufTy).Contents (Elt F)),
    unary main_v232 main_v233 (broadcastInDim S1024x1024x2 ![0, 1, 2] bcast_S1x1024x2_S1024x1024x2_0_1_2 : (⟨S1x1024x2, .i32⟩ : BufTy).Contents (Elt F) → (⟨S1024x1024x2, .i32⟩ : BufTy).Contents (Elt F)),
    unary main_v231 main_v234 (broadcastInDim S1024x1024x2 ![0, 1, 2] bcast_S1024x1x2_S1024x1024x2_0_1_2 : (⟨S1024x1x2, .i32⟩ : BufTy).Contents (Elt F) → (⟨S1024x1024x2, .i32⟩ : BufTy).Contents (Elt F)),
    binary main_v233 main_v234 main_v235 (subi : (⟨S1024x1024x2, .i32⟩ : BufTy).Contents (Elt F) → (⟨S1024x1024x2, .i32⟩ : BufTy).Contents (Elt F) → (⟨S1024x1024x2, .i32⟩ : BufTy).Contents (Elt F)),
    binary main_v235 main_v235 main_v236 (muli : (⟨S1024x1024x2, .i32⟩ : BufTy).Contents (Elt F) → (⟨S1024x1024x2, .i32⟩ : BufTy).Contents (Elt F) → (⟨S1024x1024x2, .i32⟩ : BufTy).Contents (Elt F)),
    nullary main_c_49 (constantI S_ 32 0#32),
    binary main_v236 main_c_49 main_v237 ((fun x v => Host.reduce IntOp.addi x v reducesTo_S1024x1024x2_S1024x1024_d2 h_S_) : (⟨S1024x1024x2, .i32⟩ : BufTy).Contents (Elt F) → (⟨S_, .i32⟩ : BufTy).Contents (Elt F) → (⟨S1024x1024, .i32⟩ : BufTy).Contents (Elt F)),
    unary main_v237 main_v238 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v238 main_v239 (sitofp .f32 : (⟨S1024x1024x1, .i32⟩ : BufTy).Contents (Elt F) → (⟨S1024x1024x1, .f32⟩ : BufTy).Contents (Elt F)),
    nullary main_cst_50 (constant S_ .f32 0x40420300#32),
    unary main_cst_50 main_v240 (broadcastInDim S1024x1024x1 ![] bcast_S_S1024x1024x1 : (⟨S_, .f32⟩ : BufTy).Contents (Elt F) → (⟨S1024x1024x1, .f32⟩ : BufTy).Contents (Elt F)),
    binary main_v240 main_v239 main_v241 (subf : (⟨S1024x1024x1, .f32⟩ : BufTy).Contents (Elt F) → (⟨S1024x1024x1, .f32⟩ : BufTy).Contents (Elt F) → (⟨S1024x1024x1, .f32⟩ : BufTy).Contents (Elt F)),
    unary main_v241 main_v242 (Host.sign : (⟨S1024x1024x1, .f32⟩ : BufTy).Contents (Elt F) → (⟨S1024x1024x1, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S1024x1024x1, .f32⟩) main_call9_v0) (broadcastInDim S1024x1024x1 ![] bcast_S_S1024x1024x1),
    TRef.binary (TRef.of (T := ⟨S1024x1024x1, .f32⟩) main_v242) (TRef.of (T := ⟨S1024x1024x1, .f32⟩) main_call9_v0) (TRef.of (T := ⟨S1024x1024x1, .f32⟩) main_v243) maximumf,
    unary main_v238 main_v244 (sitofp .f32 : (⟨S1024x1024x1, .i32⟩ : BufTy).Contents (Elt F) → (⟨S1024x1024x1, .f32⟩ : BufTy).Contents (Elt F)),
    nullary main_cst_51 (constant S_ .f32 0xBF000000#32),
    unary main_cst_51 main_v245 (broadcastInDim S1024x1024x1 ![] bcast_S_S1024x1024x1 : (⟨S_, .f32⟩ : BufTy).Contents (Elt F) → (⟨S1024x1024x1, .f32⟩ : BufTy).Contents (Elt F)) ]

/-- Iteration 5: its operations up to the new weights, those of the next part. -/
abbrev it4b : List (HloOp τ sig (Elt F)) :=
  [ binary main_v245 main_v244 main_v246 (mulf : (⟨S1024x1024x1, .f32⟩ : BufTy).Contents (Elt F) → (⟨S1024x1024x1, .f32⟩ : BufTy).Contents (Elt F) → (⟨S1024x1024x1, .f32⟩ : BufTy).Contents (Elt F)),
    nullary main_cst_52 (constant S_ .f32 0x40420300#32),
    unary main_cst_52 main_v247 (broadcastInDim S1024x1024x1 ![] bcast_S_S1024x1024x1 : (⟨S_, .f32⟩ : BufTy).Contents (Elt F) → (⟨S1024x1024x1, .f32⟩ : BufTy).Contents (Elt F)),
    binary main_v246 main_v247 main_v248 (Host.divf : (⟨S1024x1024x1, .f32⟩ : BufTy).Contents (Elt F) → (⟨S1024x1024x1, .f32⟩ : BufTy).Contents (Elt F) → (⟨S1024x1024x1, .f32⟩ : BufTy).Contents (Elt F)),
    unary main_v248 main_v249 (Host.exp : (⟨S1024x1024x1, .f32⟩ : BufTy).Contents (Elt F) → (⟨S1024x1024x1, .f32⟩ : BufTy).Contents (Elt F)),
    nullary main_cst_53 (constant S_ .f32 0x3D380B8F#32),
    unary main_cst_53 main_v250 (broadcastInDim S1024x1024x1 ![] bcast_S_S1024x1024x1 : (⟨S_, .f32⟩ : BufTy).Contents (Elt F) → (⟨S1024x1024x1, .f32⟩ : BufTy).Contents (Elt F)),
    binary main_v250 main_v249 main_v251 (mulf : (⟨S1024x1024x1, .f32⟩ : BufTy).Contents (Elt F) → (⟨S1024x1024x1, .f32⟩ : BufTy).Contents (Elt F) → (⟨S1024x1024x1, .f32⟩ : BufTy).Contents (Elt F)),
    binary main_v251 main_v243 main_v252 (mulf : (⟨S1024x1024x1, .f32⟩ : BufTy).Contents (Elt F) → (⟨S1024x1024x1, .f32⟩ : BufTy).Contents (Elt F) → (⟨S1024x1024x1, .f32⟩ : BufTy).Contents (Elt F)),
    unary main_v209 main_v253 (broadcastInDim S1x1024x64 ![1, 2] bcast_S1024x64_S1x1024x64_1_2 : (⟨S1024x64, .f32⟩ : BufTy).Contents (Elt F) → (⟨S1x1024x64, .f32⟩ : BufTy).Contents (Elt F)),
    unary main_v0 main_v254 (broadcastInDim S1024x1024x64 ![0, 1, 2] bcast_S1024x1x64_S1024x1024x64_0_1_2 : (⟨S1024x1x64, .f32⟩ : BufTy).Contents (Elt F) → (⟨S1024x1024x64, .f32⟩ : BufTy).Contents (Elt F)),
    unary main_v253 main_v255 (broadcastInDim S1024x1024x64 ![0, 1, 2] bcast_S1x1024x64_S1024x1024x64_0_1_2 : (⟨S1x1024x64, .f32⟩ : BufTy).Contents (Elt F) → (⟨S1024x1024x64, .f32⟩ : BufTy).Contents (Elt F)),
    binary main_v254 main_v255 main_v256 (subf : (⟨S1024x1024x64, .f32⟩ : BufTy).Contents (Elt F) → (⟨S1024x1024x64, .f32⟩ : BufTy).Contents (Elt F) → (⟨S1024x1024x64, .f32⟩ : BufTy).Contents (Elt F)),
    unary main_v252 main_v257 (id : (⟨S1024x1024x1, .f32⟩ : BufTy).Contents (Elt F) → (⟨S1024x1024x1, .f32⟩ : BufTy).Contents (Elt F)),
    unary main_v257 main_v258 (broadcastInDim S1024x1024x64 ![0, 1, 2] bcast_S1024x1024x1_S1024x1024x64_0_1_2 : (⟨S1024x1024x1, .f32⟩ : BufTy).Contents (Elt F) → (⟨S1024x1024x64, .f32⟩ : BufTy).Contents (Elt F)),
    binary main_v258 main_v256 main_v259 (mulf : (⟨S1024x1024x64, .f32⟩ : BufTy).Contents (Elt F) → (⟨S1024x1024x64, .f32⟩ : BufTy).Contents (Elt F) → (⟨S1024x1024x64, .f32⟩ : BufTy).Contents (Elt F)),
    nullary main_cst_54 (constant S_ .f32 0x00000000#32),
    binary main_v259 main_cst_54 main_v260 ((fun x v => Host.reduceAdd x v reducesTo_S1024x1024x64_S1024x64_d0 h_S_) : (⟨S1024x1024x64, .f32⟩ : BufTy).Contents (Elt F) → (⟨S_, .f32⟩ : BufTy).Contents (Elt F) → (⟨S1024x64, .f32⟩ : BufTy).Contents (Elt F)),
    nullary main_cst_55 (constant S_ .f32 0x44800000#32),
    unary main_cst_55 main_v261 (broadcastInDim S1024x64 ![] bcast_S_S1024x64 : (⟨S_, .f32⟩ : BufTy).Contents (Elt F) → (⟨S1024x64, .f32⟩ : BufTy).Contents (Elt F)),
    binary main_v260 main_v261 main_v262 (Host.divf : (⟨S1024x64, .f32⟩ : BufTy).Contents (Elt F) → (⟨S1024x64, .f32⟩ : BufTy).Contents (Elt F) → (⟨S1024x64, .f32⟩ : BufTy).Contents (Elt F)),
    binary main_v209 main_v262 main_v263 (addf : (⟨S1024x64, .f32⟩ : BufTy).Contents (Elt F) → (⟨S1024x64, .f32⟩ : BufTy).Contents (Elt F) → (⟨S1024x64, .f32⟩ : BufTy).Contents (Elt F)) ]

/-- Iteration 5: the rows looked up in the new weights. -/
abbrev out4 : List (HloOp τ sig (Elt F)) :=
  [ nullary main_c_56 (constantI S_ 32 0#32),
    unary main_c_56 main_v264 (broadcastInDim S1024 ![] bcast_S_S1024 : (⟨S_, .i32⟩ : BufTy).Contents (Elt F) → (⟨S1024, .i32⟩ : BufTy).Contents (Elt F)),
    binary main_v223 main_v264 main_v265 (cmpi .slt : (⟨S1024, .i32⟩ : BufTy).Contents (Elt F) → (⟨S1024, .i32⟩ : BufTy).Contents (Elt F) → (⟨S1024, .i1⟩ : BufTy).Contents (Elt F)),
    nullary main_c_57 (constantI S_ 32 1024#32),
    unary main_c_57 main_v266 (broadcastInDim S1024 ![] bcast_S_S1024 : (⟨S_, .i32⟩ : BufTy).Contents (Elt F) → (⟨S1024, .i32⟩ : BufTy).Contents (Elt F)),
    binary main_v223 main_v266 main_v267 (addi : (⟨S1024, .i32⟩ : BufTy).Contents (Elt F) → (⟨S1024, .i32⟩ : BufTy).Contents (Elt F) → (⟨S1024, .i32⟩ : BufTy).Contents (Elt F)),
    ternary main_v265 main_v267 main_v223 main_v268 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v268 main_v269 (broadcastInDim S1024x1 ![0] bcast_S1024_S1024x1_0 : (⟨S1024, .i32⟩ : BufTy).Contents (Elt F) → (⟨S1024x1, .i32⟩ : BufTy).Contents (Elt F)),
    binary main_v263 main_v269 main_v270 ((fun x i => Host.gather gather_S1024x64_S1024x1_S1024x64_1_0_n_n_0_1_164 x i) : (⟨S1024x64, .f32⟩ : BufTy).Contents (Elt F) → (⟨S1024x1, .i32⟩ : BufTy).Contents (Elt F) → (⟨S1024x64, .f32⟩ : BufTy).Contents (Elt F)) ]

/-- The operations of the printed part 0. -/
def part0 : List (HloOp τ sig (Elt F)) := it0 ++ (out0)

/-- The operations of the printed part 1. -/
def part1 : List (HloOp τ sig (Elt F)) := out0b ++ (it1)

/-- The operations of the printed part 2. -/
def part2 : List (HloOp τ sig (Elt F)) := it1b ++ (out1 ++ (it2))

/-- The operations of the printed part 3. -/
def part3 : List (HloOp τ sig (Elt F)) := it2b ++ (out2 ++ (it3))

/-- The operations of the printed part 4. -/
def part4 : List (HloOp τ sig (Elt F)) := it3b ++ (out3 ++ (it4))

/-- The operations of the printed part 5. -/
def part5 : List (HloOp τ sig (Elt F)) := it4b ++ (out4)

/-- All the operations, in order. -/
abbrev ops : List (HloOp τ sig (Elt F)) := part0 ++ (part1 ++ (part2 ++ (part3 ++ (part4 ++ part5))))

set_option maxRecDepth 8192 in
set_option maxHeartbeats 4000000 in
theorem part0_eq (c : Dev nD) : main_part0 (F := F) c = seq part0 := rfl
set_option maxRecDepth 8192 in
set_option maxHeartbeats 4000000 in
theorem part1_eq (c : Dev nD) : main_part1 (F := F) c = seq part1 := rfl
set_option maxRecDepth 8192 in
set_option maxHeartbeats 4000000 in
theorem part2_eq (c : Dev nD) : main_part2 (F := F) c = seq part2 := rfl
set_option maxRecDepth 8192 in
set_option maxHeartbeats 4000000 in
theorem part3_eq (c : Dev nD) : main_part3 (F := F) c = seq part3 := rfl
set_option maxRecDepth 8192 in
set_option maxHeartbeats 4000000 in
theorem part4_eq (c : Dev nD) : main_part4 (F := F) c = seq part4 := rfl
set_option maxRecDepth 8192 in
set_option maxHeartbeats 4000000 in
theorem part5_eq (c : Dev nD) : main_part5 (F := F) c = seq part5 := rfl

set_option maxRecDepth 8192 in
/-- The printed program is the list of operations run in order. -/
theorem main_eq (c : Dev nD) : main (F := F) c = seq ops := by
  simp only [ops, seq_append, ← part0_eq c, ← part1_eq c, ← part2_eq c, ← part3_eq c, ← part4_eq c, ← part5_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
/-- The operations touch the program's own buffers only. -/
theorem ops_sub : (ops : List (HloOp τ sig (Elt F))).Forall fun op => op.bufs ⊆ tcRefs τ sig := by
  rw [List.forall_iff_forall_mem]
  simp only [ops, part0, part1, part2, part3, part4, part5, List.mem_append, or_imp, forall_and, ← List.forall_iff_forall_mem]
  simp only [List.Forall, TRef.nullary, TRef.unary, TRef.binary, TRef.quaternary, unary_bufs_sub, binary_bufs_sub,
    nullary_bufs_sub, ternary_bufs_sub, quaternary_bufs_sub, and_self]

set_option maxRecDepth 8192 in
set_option maxHeartbeats 4000000 in
/-- No operation allocates. -/
theorem ops_fresh : ∀ op ∈ (ops : List (HloOp τ sig (Elt F))), op.fresh = ∅ := by
  simp only [ops, part0, part1, part2, part3, part4, part5, List.mem_append, or_imp, forall_and, ← List.forall_iff_forall_mem]
  simp only [List.Forall]
  and_intros <;> rfl

end Cert.ReferenceIdeal.Line

end
-- ==== Proof.RefRun.lean ====
module

public import proofs.«01_k».proof.Proof.RefLine

/-!
What the reference's result buffer holds at the end: five applications of one training step, `step`, to the
weights, and then the rows of the last weights at the last best-matching units.
-/

@[expose] public section

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The inputs with a middle axis of size one. -/
def lift (x : FVec F S1024x64 .f32) : FVec F S1024x1x64 .f32 :=
  broadcastInDim S1024x1x64 ![0, 2] bcast_S1024x64_S1024x1x64_0_2 x

/-- Input minus weight, for every input, unit and feature. -/
def gap (x0 : FVec F S1024x1x64 .f32) (w : FVec F S1024x64 .f32) : FVec F S1024x1024x64 .f32 :=
  subf (broadcastInDim S1024x1024x64 ![0, 1, 2] bcast_S1024x1x64_S1024x1024x64_0_1_2 x0)
    (broadcastInDim S1024x1024x64 ![0, 1, 2] bcast_S1x1024x64_S1024x1024x64_0_1_2
      (broadcastInDim S1x1024x64 ![1, 2] bcast_S1024x64_S1x1024x64_1_2 w))

/-- The squared distances. -/
def dist (x0 : FVec F S1024x1x64 .f32) (w : FVec F S1024x64 .f32) : FVec F S1024x1024 .f32 :=
  Host.reduceAdd (mulf (gap x0 w) (gap x0 w)) (constant S_ .f32 0x00000000#32) reducesTo_S1024x1024x64_S1024x1024_d2 h_S_

/-- The unit at which each row is least. -/
def least (d : FVec F S1024x1024 .f32) : IVec S1024 32 := fun j =>
  (Host.argReduce reducer_argmin_f32_i32 d (iotaInDim S1024x1024 32 1) (constant S_ .f32 0x7F800000#32)
    (constantI S_ 32 0#32) reducesTo_S1024x1024_S1024_d1 h_S_ j).2

/-- An index counted from the end, if negative, as a column of row numbers. -/
def column (b : IVec S1024 32) : IVec S1024x1 32 :=
  broadcastInDim S1024x1 ![0] bcast_S1024_S1024x1_0
    (select (cmpi .slt b (broadcastInDim S1024 ![] bcast_S_S1024 (constantI S_ 32 0#32)))
      (addi b (broadcastInDim S1024 ![] bcast_S_S1024 (constantI S_ 32 1024#32))) b)

/-- The difference of the two units' grid positions, for every input and unit. -/
def shift (loc : IVec S1024x2 32) (b : IVec S1024 32) : IVec S1024x1024x2 32 :=
  subi (broadcastInDim S1024x1024x2 ![0, 1, 2] bcast_S1x1024x2_S1024x1024x2_0_1_2
      (broadcastInDim S1x1024x2 ![1, 2] bcast_S1024x2_S1x1024x2_1_2 loc))
    (broadcastInDim S1024x1024x2 ![0, 1, 2] bcast_S1024x1x2_S1024x1024x2_0_1_2
      (broadcastInDim S1024x1x2 ![0, 2] bcast_S1024x2_S1024x1x2_0_2
        (Host.gather gather_S1024x2_S1024x1_S1024x2_1_0_n_n_0_1_12 loc (column b))))

/-- The squared grid distances. -/
def grid (loc : IVec S1024x2 32) (b : IVec S1024 32) : IVec S1024x1024x1 32 :=
  broadcastInDim S1024x1024x1 ![0, 1] bcast_S1024x1024_S1024x1024x1_0_1
    (Host.reduce IntOp.addi (muli (shift loc b) (shift loc b)) (constantI S_ 32 0#32)
      reducesTo_S1024x1024x2_S1024x1024_d2 h_S_)

/-- The neighbourhood strengths, at learning rate `lr` and squared radius `nr2`. -/
def strength (lr nr2 : BitVec 32) (g : IVec S1024x1024x1 32) : FVec F S1024x1024x1 .f32 :=
  mulf (mulf (broadcastInDim S1024x1024x1 ![] bcast_S_S1024x1024x1 (constant S_ .f32 lr))
      (Host.exp (Host.divf (mulf (broadcastInDim S1024x1024x1 ![] bcast_S_S1024x1024x1 (constant S_ .f32 0xBF000000#32)) (sitofp .f32 g))
        (broadcastInDim S1024x1024x1 ![] bcast_S_S1024x1024x1 (constant S_ .f32 nr2)))))
    (maximumf (Host.sign (subf (broadcastInDim S1024x1024x1 ![] bcast_S_S1024x1024x1 (constant S_ .f32 nr2)) (sitofp .f32 g)))
      (broadcastInDim S1024x1024x1 ![] bcast_S_S1024x1024x1 (constant S_ .f32 0x00000000#32)))

/-- The weights moved by the mean of the strengths times the gaps. -/
def moved (x0 : FVec F S1024x1x64 .f32) (w : FVec F S1024x64 .f32) (e : FVec F S1024x1024x1 .f32) : FVec F S1024x64 .f32 :=
  addf w (Host.divf (Host.reduceAdd (mulf (broadcastInDim S1024x1024x64 ![0, 1, 2] bcast_S1024x1024x1_S1024x1024x64_0_1_2 e) (gap x0 w))
      (constant S_ .f32 0x00000000#32) reducesTo_S1024x1024x64_S1024x64_d0 h_S_)
    (broadcastInDim S1024x64 ![] bcast_S_S1024x64 (constant S_ .f32 0x44800000#32)))

/-- One training step. -/
def step (lr nr2 : BitVec 32) (x0 : FVec F S1024x1x64 .f32) (loc : IVec S1024x2 32) (w : FVec F S1024x64 .f32) : FVec F S1024x64 .f32 :=
  moved x0 w (strength lr nr2 (grid loc (least (dist x0 w))))

/-- The rows of `w` at the given units. -/
def rows (w : FVec F S1024x64 .f32) (b : IVec S1024 32) : FVec F S1024x64 .f32 :=
  Host.gather gather_S1024x64_S1024x1_S1024x64_1_0_n_n_0_1_164 w (column b)

/-- What an iteration keeps: the three arguments and the lifted inputs. -/
def Keeps (V V' : Valuation τ sig (Elt F)) : Prop :=
  V' (no_index (Proc.devRef .tc main_v0)) = V (Proc.devRef .tc main_v0)
    ∧ V' (no_index (Proc.devRef .tc main_arg0)) = V (Proc.devRef .tc main_arg0)
    ∧ V' (no_index (Proc.devRef .tc main_arg1)) = V (Proc.devRef .tc main_arg1)
    ∧ V' (no_index (Proc.devRef .tc main_arg2)) = V (Proc.devRef .tc main_arg2)

variable (V : Valuation τ sig (Elt F))

/-- The contents after iteration 1. -/
def val1 : Valuation τ sig (Elt F) :=
  after out0b (after out0 (after it0 V))

set_option maxRecDepth 8192 in
set_option maxHeartbeats 4000000 in
theorem val1_w : val1 V (no_index (Proc.devRef .tc main_v47)) =
    step 0x3DCCCCCD#32 0x43800000#32 (lift (V (Proc.devRef .tc main_arg0))) (V (Proc.devRef .tc main_arg2)) (V (Proc.devRef .tc main_arg1)) := by
  simp only [val1, it0, out0, out0b, TRef.binary, TRef.nullary, TRef.unary, TRef.quaternary, TRef.toBuf, TRef.ofBuf, cast_eq]
  after_results_simp
  rfl

set_option maxRecDepth 8192 in
set_option maxHeartbeats 4000000 in
theorem val1_keeps : val1 V (no_index (Proc.devRef .tc main_v0)) = lift (V (Proc.devRef .tc main_arg0))
    ∧ val1 V (no_index (Proc.devRef .tc main_arg0)) = V (Proc.devRef .tc main_arg0)
    ∧ val1 V (no_index (Proc.devRef .tc main_arg1)) = V (Proc.devRef .tc main_arg1)
    ∧ val1 V (no_index (Proc.devRef .tc main_arg2)) = V (Proc.devRef .tc main_arg2) := by
  simp only [val1, it0, out0, out0b, TRef.binary, TRef.nullary, TRef.unary, TRef.quaternary, TRef.toBuf, TRef.ofBuf, cast_eq]
  refine ⟨?_, ?_, ?_, ?_⟩ <;> after_results_simp
  rfl

/-- The contents after iteration 2. -/
def val2 : Valuation τ sig (Elt F) :=
  after out1 (after it1b (after it1 V))

set_option maxRecDepth 8192 in
set_option maxHeartbeats 4000000 in
theorem val2_w : val2 V (no_index (Proc.devRef .tc main_v101)) =
    step 0x3DA7AD12#32 0x42A8E5A3#32 (V (Proc.devRef .tc main_v0)) (V (Proc.devRef .tc main_arg2)) (V (Proc.devRef .tc main_v47)) := by
  simp only [val2, it1, it1b, out1, TRef.binary, TRef.nullary, TRef.unary, TRef.quaternary, TRef.toBuf, TRef.ofBuf, cast_eq]
  after_results_simp
  rfl

set_option maxRecDepth 8192 in
set_option maxHeartbeats 4000000 in
theorem val2_keeps : Keeps V (val2 V) := by
  simp only [Keeps, val2, it1, it1b, out1, TRef.binary, TRef.nullary, TRef.unary, TRef.quaternary, TRef.toBuf, TRef.ofBuf, cast_eq]
  refine ⟨?_, ?_, ?_, ?_⟩ <;> after_results_simp

/-- The contents after iteration 3. -/
def val3 : Valuation τ sig (Elt F) :=
  after out2 (after it2b (after it2 V))

set_option maxRecDepth 8192 in
set_option maxHeartbeats 4000000 in
theorem val3_w : val3 V (no_index (Proc.devRef .tc main_v155)) =
    step 0x3D894813#32 0x41DEDC67#32 (V (Proc.devRef .tc main_v0)) (V (Proc.devRef .tc main_arg2)) (V (Proc.devRef .tc main_v101)) := by
  simp only [val3, it2, it2b, out2, TRef.binary, TRef.nullary, TRef.unary, TRef.quaternary, TRef.toBuf, TRef.ofBuf, cast_eq]
  after_results_simp
  rfl

set_option maxRecDepth 8192 in
set_option maxHeartbeats 4000000 in
theorem val3_keeps : Keeps V (val3 V) := by
  simp only [Keeps, val3, it2, it2b, out2, TRef.binary, TRef.nullary, TRef.unary, TRef.quaternary, TRef.toBuf, TRef.ofBuf, cast_eq]
  refine ⟨?_, ?_, ?_, ?_⟩ <;> after_results_simp

/-- The contents after iteration 4. -/
def val4 : Valuation τ sig (Elt F) :=
  after out3 (after it3b (after it3 V))

set_option maxRecDepth 8192 in
set_option maxHeartbeats 4000000 in
theorem val4_w : val4 V (no_index (Proc.devRef .tc main_v209)) =
    step 0x3D60CB12#32 0x4113088C#32 (V (Proc.devRef .tc main_v0)) (V (Proc.devRef .tc main_arg2)) (V (Proc.devRef .tc main_v155)) := by
  simp only [val4, it3, it3b, out3, TRef.binary, TRef.nullary, TRef.unary, TRef.quaternary, TRef.toBuf, TRef.ofBuf, cast_eq]
  after_results_simp
  rfl

set_option maxRecDepth 8192 in
set_option maxHeartbeats 4000000 in
theorem val4_keeps : Keeps V (val4 V) := by
  simp only [Keeps, val4, it3, it3b, out3, TRef.binary, TRef.nullary, TRef.unary, TRef.quaternary, TRef.toBuf, TRef.ofBuf, cast_eq]
  refine ⟨?_, ?_, ?_, ?_⟩ <;> after_results_simp

/-- The contents after iteration 5. -/
def val5 : Valuation τ sig (Elt F) :=
  after out4 (after it4b (after it4 V))

set_option maxRecDepth 8192 in
set_option maxHeartbeats 4000000 in
theorem val5_w : val5 V (no_index (Proc.devRef .tc main_v263)) =
    step 0x3D380B8F#32 0x40420300#32 (V (Proc.devRef .tc main_v0)) (V (Proc.devRef .tc main_arg2)) (V (Proc.devRef .tc main_v209)) := by
  simp only [val5, it4, it4b, out4, TRef.binary, TRef.nullary, TRef.unary, TRef.quaternary, TRef.toBuf, TRef.ofBuf, cast_eq]
  after_results_simp
  rfl

set_option maxRecDepth 8192 in
set_option maxHeartbeats 4000000 in
theorem val5_keeps : Keeps V (val5 V) := by
  simp only [Keeps, val5, it4, it4b, out4, TRef.binary, TRef.nullary, TRef.unary, TRef.quaternary, TRef.toBuf, TRef.ofBuf, cast_eq]
  refine ⟨?_, ?_, ?_, ?_⟩ <;> after_results_simp

set_option maxRecDepth 8192 in
set_option maxHeartbeats 4000000 in
theorem val5_result : val5 V (no_index (Proc.devRef .tc main_v270)) =
    rows (val5 V (Proc.devRef .tc main_v263)) (least (dist (V (Proc.devRef .tc main_v0)) (V (Proc.devRef .tc main_v209)))) := by
  simp only [val5, it4, it4b, out4, TRef.binary, TRef.nullary, TRef.unary, TRef.quaternary, TRef.toBuf, TRef.ofBuf, cast_eq]
  after_results_simp
  rfl

theorem after_ops : after ops V = val5 (val4 (val3 (val2 (val1 V)))) := by
  simp only [ops, part0, part1, part2, part3, part4, part5, after_append]
  rfl

/-- The weights after four of the five steps. -/
def w4 (x0 : FVec F S1024x1x64 .f32) (loc : IVec S1024x2 32) (w : FVec F S1024x64 .f32) : FVec F S1024x64 .f32 :=
  step 0x3D60CB12#32 0x4113088C#32 x0 loc (step 0x3D894813#32 0x41DEDC67#32 x0 loc
    (step 0x3DA7AD12#32 0x42A8E5A3#32 x0 loc (step 0x3DCCCCCD#32 0x43800000#32 x0 loc w)))

/-- The reference's result as a function of its arguments. -/
def result (x w : FVec F S1024x64 .f32) (loc : IVec S1024x2 32) : FVec F S1024x64 .f32 :=
  rows (step 0x3D380B8F#32 0x40420300#32 (lift x) loc (w4 (lift x) loc w)) (least (dist (lift x) (w4 (lift x) loc w)))

theorem final : after ops V (Proc.devRef .tc main_v270) =
      result (V (Proc.devRef .tc main_arg0)) (V (Proc.devRef .tc main_arg1)) (V (Proc.devRef .tc main_arg2))
    ∧ after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2) := by
  obtain ⟨x1, a1, b1, c1⟩ := val1_keeps V
  obtain ⟨x2, a2, b2, c2⟩ := val2_keeps (val1 V)
  obtain ⟨x3, a3, b3, c3⟩ := val3_keeps (val2 (val1 V))
  obtain ⟨x4, a4, b4, c4⟩ := val4_keeps (val3 (val2 (val1 V)))
  obtain ⟨x5, a5, b5, c5⟩ := val5_keeps (val4 (val3 (val2 (val1 V))))
  rw [after_ops]
  refine ⟨?_, ?_, ?_, ?_⟩
  · rw [val5_result, val5_w, val4_w, val3_w, val2_w, val1_w, x4, x3, x2, x1, c4, c3, c2, c1]
    rfl
  · rw [a5, a4, a3, a2, a1]
  · rw [b5, b4, b3, b2, b1]
  · rw [c5, c4, c3, c2, c1]

/-- Every weakly fair execution of the reference ends with the result buffer at `result` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v270) = result (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨e, a, b, d⟩ := final (launchContents m c)
      exact ⟨(h c main_v270).trans e, (h c main_arg0).trans a, (h c main_arg1).trans b, (h c main_arg2).trans d⟩)
    (run_seq scopedRefs_eq scopedSems_eq defs main (fun _ => ops) main_eq (fun _ => ops_sub) m ρ fun _ => ops_fresh)

end Cert.ReferenceIdeal.Line

end
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.Pre_admissible
public import proofs.«01_k».proof.Proof.RefRun
public import Idealize.ShloMosaic.Adequacy

/-!
The three runs that leave the arguments unchanged, and the named constants of the idealization.
-/

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Line.run (F := Ideal) m ρ)

theorem preserves : Cert.preserves_Kernel_KernelIdeal :=
  ⟨IdealRules.named_const.statement Cert.KernelIdeal.κ "m0" .f32 0x3BB8AA3B#32 _ rfl,
    IdealRules.named_const.statement Cert.KernelIdeal.κ "c0" .f32 0xBB38AA3B#32 _ rfl,
    IdealRules.named_const.statement Cert.KernelIdeal.κ "bias0" .f32 0xC0549A78#32 _ rfl,
    IdealRules.named_const.statement Cert.KernelIdeal.κ "m1" .f32 0x3C8BF32B#32 _ rfl,
    IdealRules.named_const.statement Cert.KernelIdeal.κ "c1" .f32 0xBC0BF32B#32 _ rfl,
    IdealRules.named_const.statement Cert.KernelIdeal.κ "bias1" .f32 0xC06711E5#32 _ rfl,
    IdealRules.named_const.statement Cert.KernelIdeal.κ "m2" .f32 0x3D541FD5#32 _ rfl,
    IdealRules.named_const.statement Cert.KernelIdeal.κ "c2" .f32 0xBCD41FD5#32 _ rfl,
    IdealRules.named_const.statement Cert.KernelIdeal.κ "bias2" .f32 0xC0798951#32 _ rfl,
    IdealRules.named_const.statement Cert.KernelIdeal.κ "m3" .f32 0x3E20C29C#32 _ rfl,
    IdealRules.named_const.statement Cert.KernelIdeal.κ "c3" .f32 0xBDA0C29C#32 _ rfl,
    IdealRules.named_const.statement Cert.KernelIdeal.κ "bias3" .f32 0xC086005F#32 _ rfl,
    IdealRules.named_const.statement Cert.KernelIdeal.κ "m4" .f32 0x3EF3AAB9#32 _ rfl,
    IdealRules.named_const.statement Cert.KernelIdeal.κ "c4" .f32 0xBE73AAB9#32 _ rfl,
    IdealRules.named_const.statement Cert.KernelIdeal.κ "bias4" .f32 0xC08F3C15#32 _ rfl⟩

end Cert.Proof

end
-- ==== Proof.KernelStep.lean ====
module

public import proofs.«01_k».proof.Proof.Gen.KernelIdeal.Value

/-!
The kernel's body as five applications of one training step, `step`, followed by the one-hot product that reads
the rows of the last weights at the last best-matching units.
-/

@[expose] public section

noncomputable section

namespace Cert.KernelIdeal.Body

open Cert.KernelIdeal Cert.KernelIdeal.Gen Idealize.ShloMosaic Idealize.ShloMosaic.TcCoe Idealize.SL.Sem

variable {F : FTy → Type} [FloatOps F] [Named F]

/-- The score of every unit (rows) for every input (columns): the squared length of the weights minus twice the inner product. -/
def score (xt : FVec F S64x1024 .f32) (w : FVec F S1024x64 .f32) : FVec F S1024x1024 .f32 :=
  addf (broadcastTo S1024x1024
      (shapeCast S1024x1 (multiReduction .add [1] S1024 (mulf w w) 0x00000000#32 reduces_S1024x64_S1024 (.inl rfl) rfl) shapeCasts_S1024_S1024x1)
      broadcasts_S1024x1_S1024x1024)
    (matmul dot_S1024x64_S64x1024_S1024x1024_1_0_0_1_n_n (some .fp32) w xt (constant S1024x1024 .f32 0x00000000#32))

/-- The best-matching unit of every input, as a row. -/
def best (xt : FVec F S64x1024 .f32) (w : FVec F S1024x64 .f32) : IVec S1x1024 32 :=
  shapeCast S1x1024 (reduceIndex .argMin 0 S1024 (score xt w) reduces_S1024x1024_S1024) shapeCasts_S1024_S1x1024

/-- The number of every unit, as a column. -/
def units : IVec S1024x1 32 := iota .tc S1024x1 32 [0] iota_S1024x1_d0_w32

/-- The grid row of every unit. -/
def high {s : Shape} (u : IVec s 32) : FVec F s .f32 := sitofp .f32 (shrsi u (broadcast s 5#32))

/-- The grid column of every unit. -/
def low {s : Shape} (u : IVec s 32) : FVec F s .f32 := sitofp .f32 (andi u (broadcast s 31#32))

/-- The squared length of every unit's grid position. -/
def norm {s : Shape} (u : IVec s 32) : FVec F s .f32 := addf (mulf (high u) (high u)) (mulf (low u) (low u))

/-- The exponent: `C` times the squared grid distance, plus `B`, in expanded form. -/
def expo (M C B : F .f32) (u : IVec S1x1024 32) : FVec F S1024x1024 .f32 :=
  addf
    (addf
      (mulf (broadcastTo S1024x1024 (high units) broadcasts_S1024x1_S1024x1024)
        (broadcastTo S1024x1024 (mulf (high u) (broadcast S1x1024 M)) broadcasts_S1x1024_S1024x1024))
      (broadcastTo S1024x1024 (mulf (norm units) (broadcast S1024x1 C)) broadcasts_S1024x1_S1024x1024))
    (addf
      (mulf (broadcastTo S1024x1024 (low units) broadcasts_S1024x1_S1024x1024)
        (broadcastTo S1024x1024 (mulf (low u) (broadcast S1x1024 M)) broadcasts_S1x1024_S1024x1024))
      (broadcastTo S1024x1024 (addf (mulf (norm u) (broadcast S1x1024 C)) (broadcast S1x1024 B)) broadcasts_S1x1024_S1024x1024))

/-- The neighbourhood strengths: two to the exponent where that is above `T`, zero elsewhere. -/
def strength (T : F .f32) (t : FVec F S1024x1024 .f32) : FVec F S1024x1024 .f32 :=
  select (cmpf .ogt t (broadcast S1024x1024 T)) (exp2 t) (broadcast S1024x1024 (Scalar.ofBits .f32 0x00000000#32))

/-- The strengths times the inputs, the strengths and the inputs each in two pieces. -/
def sums (xh xl : FVec F S1024x65 .bf16) (e : FVec F S1024x1024 .f32) : FVec F S1024x65 .f32 :=
  addf
    (addf
      (matmul dot_S1024x1024_S1024x65_S1024x65_1_0_0_1_n_n none (truncf .bf16 e bitsLt_bf16_f32) xh (constant S1024x65 .f32 0x00000000#32))
      (matmul dot_S1024x1024_S1024x65_S1024x65_1_0_0_1_n_n none (truncf .bf16 e bitsLt_bf16_f32) xl (constant S1024x65 .f32 0x00000000#32)))
    (matmul dot_S1024x1024_S1024x65_S1024x65_1_0_0_1_n_n none
      (truncf .bf16 (subf e (extf .f32 (truncf .bf16 e bitsLt_bf16_f32) bitsLt_bf16_f32)) bitsLt_bf16_f32) xh (constant S1024x65 .f32 0x00000000#32))

/-- The weights moved by the sums: the last column holds the sum of the strengths. -/
def moved (w : FVec F S1024x64 .f32) (s : FVec F S1024x65 .f32) : FVec F S1024x64 .f32 :=
  addf
    (mulf w (broadcastTo S1024x64
      (subf (broadcast S1024x1 (Scalar.ofBits .f32 0x3F800000#32))
        (mulf (extractStridedSlice S1024x1 ![0, 64] s slices_S1024x65_o0_64_S1024x1) (broadcast S1024x1 (Scalar.ofBits .f32 0x3A800000#32))))
      broadcasts_S1024x1_S1024x64))
    (mulf (extractStridedSlice S1024x64 ![0, 0] s slices_S1024x65_o0_0_S1024x64) (broadcast S1024x64 (Scalar.ofBits .f32 0x3A800000#32)))

/-- One training step. -/
def step (M C B T : F .f32) (xh xl : FVec F S1024x65 .bf16) (xt : FVec F S64x1024 .f32) (w : FVec F S1024x64 .f32) : FVec F S1024x64 .f32 :=
  moved w (sums xh xl (strength T (expo M C B (best xt w))))

/-- The one-hot rows of the best-matching units. -/
def onehot (u : IVec S1x1024 32) : FVec F S1024x1024 .bf16 :=
  truncf .bf16 (sitofp .f32 (extui 32 (cmpi .eq
    (broadcastTo S1024x1024 (iota .tc S1x1024 32 [1] iota_S1x1024_d1_w32) broadcasts_S1x1024_S1024x1024)
    (broadcastTo S1024x1024 (transpose S1024x1 [1, 0] u transposes_S1x1024_p1_0_S1024x1) broadcasts_S1024x1_S1024x1024)) natLt_1_32)) bitsLt_bf16_f32

/-- What is left of an array when its high piece is taken away. -/
def rest (w : FVec F S1024x64 .f32) : FVec F S1024x64 .f32 :=
  subf w (extf .f32 (truncf .bf16 w bitsLt_bf16_f32) bitsLt_bf16_f32)

/-- The one-hot rows times the weights in three pieces. -/
def pick (o : FVec F S1024x1024 .bf16) (w : FVec F S1024x64 .f32) : FVec F S1024x64 .f32 :=
  addf
    (addf
      (matmul dot_S1024x1024_S1024x64_S1024x64_1_0_0_1_n_n none o (truncf .bf16 w bitsLt_bf16_f32) (constant S1024x64 .f32 0x00000000#32))
      (matmul dot_S1024x1024_S1024x64_S1024x64_1_0_0_1_n_n none o (truncf .bf16 (rest w) bitsLt_bf16_f32) (constant S1024x64 .f32 0x00000000#32)))
    (matmul dot_S1024x1024_S1024x64_S1024x64_1_0_0_1_n_n none o (truncf .bf16 (rest (rest w)) bitsLt_bf16_f32) (constant S1024x64 .f32 0x00000000#32))

/-- The weights after four steps. -/
def w4 (xh xl : FVec F S1024x65 .bf16) (xt : FVec F S64x1024 .f32) (w : FVec F S1024x64 .f32) : FVec F S1024x64 .f32 :=
  step (Named.named κ "m3" 0x3E20C29C#32) (Named.named κ "c3" 0xBDA0C29C#32) (Named.named κ "bias3" 0xC086005F#32) (Scalar.ofBits .f32 0xC09DDD42#32) xh xl xt
    (step (Named.named κ "m2" 0x3D541FD5#32) (Named.named κ "c2" 0xBCD41FD5#32) (Named.named κ "bias2" 0xC0798951#32) (Scalar.ofBits .f32 0xC0938E14#32) xh xl xt
      (step (Named.named κ "m1" 0x3C8BF32B#32) (Named.named κ "c1" 0xBC0BF32B#32) (Named.named κ "bias1" 0xC06711E5#32) (Scalar.ofBits .f32 0xC08AA1D4#32) xh xl xt
        (step (Named.named κ "m0" 0x3BB8AA3B#32) (Named.named κ "c0" 0xBB38AA3B#32) (Named.named κ "bias0" 0xC0549A78#32) (Scalar.ofBits .f32 0xC08156F9#32) xh xl xt w)))

/-- The kernel's result. -/
def result (xh xl : FVec F S1024x65 .bf16) (xt : FVec F S64x1024 .f32) (w : FVec F S1024x64 .f32) : FVec F S1024x64 .f32 :=
  pick (onehot (best xt (w4 xh xl xt w)))
    (step (Named.named κ "m4" 0x3EF3AAB9#32) (Named.named κ "c4" 0xBE73AAB9#32) (Named.named κ "bias4" 0xC08F3C15#32) (Scalar.ofBits .f32 0xC0A9E2C1#32) xh xl xt (w4 xh xl xt w))

section Stages

variable (x0 x1 : Vec F S1024x65 .bf16) (x2 : Vec F S64x1024 .f32) (x3 : Vec F S1024x64 .f32)

theorem zero65 : (![0, 0] : Fin S1024x65.rank → Nat) = fun _ => 0 := funext fun a => by fin_cases a <;> rfl
theorem zero1024 : (![0, 0] : Fin S64x1024.rank → Nat) = fun _ => 0 := funext fun a => by fin_cases a <;> rfl
theorem zero64 : (![0, 0] : Fin S1024x64.rank → Nat) = fun _ => 0 := funext fun a => by fin_cases a <;> rfl

theorem at37 : k0_pay37 x0 x1 x2 x3 = x0 := by
  unfold k0_pay37 k0_pay2
  rw [View.ld_unit_zero zero65, shapeCast_self]

theorem at38 : k0_pay38 x0 x1 x2 x3 = x1 := by
  unfold k0_pay38 k0_pay3
  rw [View.ld_unit_zero zero65, shapeCast_self]

theorem at39 : k0_pay39 x0 x1 x2 x3 = x2 := by
  unfold k0_pay39 k0_pay4
  rw [View.ld_unit_zero zero1024, shapeCast_self]

/-- The weights after one step. -/
def wOne : FVec F S1024x64 .f32 :=
  step (Named.named κ "m0" 0x3BB8AA3B#32) (Named.named κ "c0" 0xBB38AA3B#32) (Named.named κ "bias0" 0xC0549A78#32) (Scalar.ofBits .f32 0xC08156F9#32) x0 x1 x2 x3
/-- The weights after two steps. -/
def wTwo : FVec F S1024x64 .f32 :=
  step (Named.named κ "m1" 0x3C8BF32B#32) (Named.named κ "c1" 0xBC0BF32B#32) (Named.named κ "bias1" 0xC06711E5#32) (Scalar.ofBits .f32 0xC08AA1D4#32) x0 x1 x2 (wOne x0 x1 x2 x3)
/-- The weights after three steps. -/
def wThree : FVec F S1024x64 .f32 :=
  step (Named.named κ "m2" 0x3D541FD5#32) (Named.named κ "c2" 0xBCD41FD5#32) (Named.named κ "bias2" 0xC0798951#32) (Scalar.ofBits .f32 0xC0938E14#32) x0 x1 x2 (wTwo x0 x1 x2 x3)

theorem at46 : k0_pay46 x0 x1 x2 x3 = wOne x0 x1 x2 x3 := by
  unfold k0_pay46 k0_pay42 k0_pay43 k0_pay44
  rw [at37, at38, View.ld_unit_zero zero64, View.ld_unit_zero zero1024]
  unfold k0_pay10 k0_pay11 k0_pay12 k0_pay9 k0_pay8 k0_pay7 k0_pay4
  simp only [shapeCast_self]
  rfl

theorem at47 : k0_pay47 x0 x1 x2 x3 = best x2 (wOne x0 x1 x2 x3) := by
  rw [← at46]
  unfold k0_pay47
  rw [at39]
  rfl

theorem at52 : k0_pay52 x0 x1 x2 x3 = wTwo x0 x1 x2 x3 := by
  have e : k0_pay48 x0 x1 x2 x3 = shrsi (k0_pay47 x0 x1 x2 x3) (broadcast S1x1024 5#32) := rfl
  unfold k0_pay52 k0_pay49 k0_pay50
  rw [e, at37, at38, at46, at47]
  rfl

theorem at54 : k0_pay54 x0 x1 x2 x3 = wThree x0 x1 x2 x3 := by
  unfold k0_pay54
  have e : k0_pay53 x0 x1 x2 x3 = expo (Named.named κ "m2" 0x3D541FD5#32) (Named.named κ "c2" 0xBCD41FD5#32) (Named.named κ "bias2" 0xC0798951#32)
      (best (k0_pay39 x0 x1 x2 x3) (k0_pay52 x0 x1 x2 x3)) := rfl
  rw [e, at37, at38, at39, at52]
  rfl

theorem at58 : k0_pay58 x0 x1 x2 x3 = w4 x0 x1 x2 x3 := by
  unfold k0_pay58
  have a : k0_pay55 x0 x1 x2 x3 = mulf (high (best (k0_pay39 x0 x1 x2 x3) (k0_pay54 x0 x1 x2 x3))) (broadcast S1x1024 (Named.named κ "m3" 0x3E20C29C#32)) := rfl
  have b : k0_pay56 x0 x1 x2 x3 = mulf (low (best (k0_pay39 x0 x1 x2 x3) (k0_pay54 x0 x1 x2 x3))) (broadcast S1x1024 (Named.named κ "m3" 0x3E20C29C#32)) := rfl
  have d : k0_pay57 x0 x1 x2 x3 = norm (best (k0_pay39 x0 x1 x2 x3) (k0_pay54 x0 x1 x2 x3)) := rfl
  rw [a, b, d, at37, at38, at39, at54]
  rfl

end Stages

/-- What the body stores, from the blocks it loads. -/
theorem out_eq (x0 x1 : Vec F S1024x65 .bf16) (x2 : Vec F S64x1024 .f32) (x3 : Vec F S1024x64 .f32) :
    out0_4 x0 x1 x2 x3 = result x0 x1 x2 x3 := by
  have e : k0_pay59 x0 x1 x2 x3 = shapeCast S1024x1 (multiReduction .add [1] S1024 (mulf (k0_pay58 x0 x1 x2 x3) (k0_pay58 x0 x1 x2 x3)) 0x00000000#32
      reduces_S1024x64_S1024 (.inl rfl) rfl) shapeCasts_S1024_S1024x1 := rfl
  unfold out0_4
  rw [View.canon_unit_zero zero64, e, at37, at38, at39, at58]
  rfl

variable (m : (ℓ : Loc nD τ sig) → Buf (Elt F) ℓ)

/-- The inputs with a column of ones. -/
def wide (x : FVec F S1024x64 .f32) : FVec F S1024x65 .f32 :=
  concatenate S1024x65 1 [⟨S1024x64, x⟩, ⟨S1024x1, broadcastInDim S1024x1 ![] bcast_S_S1024x1 (constant S_ .f32 0x3F800000#32)⟩]
    concatenates_S1024x64_S1024x1_S1024x65_d1

/-- The inputs times minus two, transposed. -/
def turned (x : FVec F S1024x64 .f32) : FVec F S64x1024 .f32 :=
  transpose S64x1024 [1, 0] (mulf (broadcastInDim S1024x64 ![] bcast_S_S1024x64 (constant S_ .f32 0xC0000000#32)) x) transposes_S1024x64_S64x1024_1_0

/-- The result from the two arguments the kernel reads. -/
def whole (x w : FVec F S1024x64 .f32) : FVec F S1024x64 .f32 :=
  result (truncf .bf16 (wide x) bitsLt_bf16_f32)
    (truncf .bf16 (subf (wide x) (extf .f32 (truncf .bf16 (wide x) bitsLt_bf16_f32) bitsLt_bf16_f32)) bitsLt_bf16_f32) (turned x) w

theorem V_v2 (c : Dev nD) : V m c main_v2 = truncf .bf16 (wide (m ((c : Thread nD τ).loc main_arg0))) bitsLt_bf16_f32 := by
  simp only [V, hostOps0]
  after_results_simp
  rfl

theorem V_v5 (c : Dev nD) : V m c main_v5 = truncf .bf16 (subf (wide (m ((c : Thread nD τ).loc main_arg0)))
    (extf .f32 (truncf .bf16 (wide (m ((c : Thread nD τ).loc main_arg0))) bitsLt_bf16_f32) bitsLt_bf16_f32)) bitsLt_bf16_f32 := by
  simp only [V, hostOps0]
  after_results_simp
  rfl

theorem V_v8 (c : Dev nD) : V m c main_v8 = turned (m ((c : Thread nD τ).loc main_arg0)) := by
  simp only [V, hostOps0]
  after_results_simp
  rfl

/-- The one grid point. -/
def t₀ : Fin cfg0.N := ⟨0, by decide⟩

theorem array (c : Dev nD) : (dats m 0 c).arrAt 4 cfg0.N
    = whole (m ((c : Thread nD τ).loc main_arg0)) (m ((c : Thread nD τ).loc main_arg1)) := by
  have ho := Value.blocks4 m c t₀ (by decide)
  rw [Value.flushed4, out_eq] at ho
  have z0 : (fun a => (win0_0.index t₀) a * main_v2.ty.shape.size a) = fun _ => 0 := funext fun a => by fin_cases a <;> decide
  have z1 : (fun a => (win0_1.index t₀) a * main_v5.ty.shape.size a) = fun _ => 0 := funext fun a => by fin_cases a <;> decide
  have z2 : (fun a => (win0_2.index t₀) a * main_v8.ty.shape.size a) = fun _ => 0 := funext fun a => by fin_cases a <;> decide
  have z3 : (fun a => (win0_3.index t₀) a * main_arg1.ty.shape.size a) = fun _ => 0 := funext fun a => by fin_cases a <;> decide
  have z4 : (fun a => (win0_4.index t₀) a * main_v9.ty.shape.size a) = fun _ => 0 := funext fun a => by fin_cases a <;> decide
  have r0 := fun f => Memref.read_access_unit_zero (Elt F) main_v2 z0 (fun a => by fin_cases a <;> decide) f
  have r1 := fun f => Memref.read_access_unit_zero (Elt F) main_v5 z1 (fun a => by fin_cases a <;> decide) f
  have r2 := fun f => Memref.read_access_unit_zero (Elt F) main_v8 z2 (fun a => by fin_cases a <;> decide) f
  have r3 := fun f => Memref.read_access_unit_zero (Elt F) main_arg1 z3 (fun a => by fin_cases a <;> decide) f
  have r4 := fun f => Memref.read_access_unit_zero (Elt F) main_v9 z4 (fun a => by fin_cases a <;> decide) f
  rw [r4] at ho
  rw [ho]
  unfold iblk
  rw [r0, r1, r2, r3, V_main_arg1, V_v2, V_v5, V_v8]
  rfl

/-- What the kernel program leaves: `whole` of its first two arguments. -/
theorem run (ρ : Dev nD → PrngReg) : θ_run defs (onTc (τ := τ) (main (F := F))) ⟨m, fun _ => 0, ρ⟩ fun r => ∀ c : Dev nD,
      r.2.mem ((c : Thread nD τ).loc main_v9) = whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (array m c), (h c).2⟩) (Value.run_blocks m ρ)

end Cert.KernelIdeal.Body

end
-- ==== Proof.Model.lean ====
module

public import Idealize.ShloMosaic.Lib.Pointwise

/-!
The self-organising map over the real numbers: squared distances, the first best-matching unit, the neighbourhood
strength on the 32 by 32 grid, and one training step.
-/

@[expose] public section

noncomputable section

namespace Som

open Real

/-- `k` is the first index at which `f` is least. -/
def IsFirst {n : ℕ} (f : Fin n → ℝ) (k : Fin n) : Prop := (∀ j, f k ≤ f j) ∧ ∀ j, j < k → f k < f j

theorem IsFirst.unique {n : ℕ} {f : Fin n → ℝ} {k l : Fin n} (hk : IsFirst f k) (hl : IsFirst f l) : k = l := by
  rcases lt_trichotomy k l with h | h | h
  · exact absurd (hl.2 k h) (not_lt.2 (hk.1 l))
  · exact h
  · exact absurd (hk.2 l h) (not_lt.2 (hl.1 k))

/-- Adding a constant does not move the first least index. -/
theorem IsFirst.shift {n : ℕ} {f g : Fin n → ℝ} {k : Fin n} (c : ℝ) (h : ∀ j, g j = f j + c) (hk : IsFirst g k) : IsFirst f k := by
  refine ⟨fun j => ?_, fun j hj => ?_⟩
  · have := hk.1 j; rw [h, h] at this; linarith
  · have := hk.2 j hj; rw [h, h] at this; linarith

theorem exists_isFirst (f : Fin 1024 → ℝ) : ∃ k, IsFirst f k := by
  obtain ⟨k₀, -, h₀⟩ := Finset.exists_min_image Finset.univ f ⟨0, Finset.mem_univ _⟩
  obtain ⟨k, hk, hmin⟩ := Finset.exists_min_image (Finset.univ.filter fun k => f k = f k₀) id ⟨k₀, by simp⟩
  simp only [Finset.mem_filter, Finset.mem_univ, true_and, id] at hk hmin
  refine ⟨k, fun j => hk ▸ h₀ j (Finset.mem_univ _), fun j hj => lt_of_le_of_ne (hk ▸ h₀ j (Finset.mem_univ _)) fun e => ?_⟩
  exact absurd (hmin j (e ▸ hk)) (not_le.2 hj)

/-- The first index at which `f` is least. -/
def first (f : Fin 1024 → ℝ) : Fin 1024 := (exists_isFirst f).choose

theorem first_spec (f : Fin 1024 → ℝ) : IsFirst f (first f) := (exists_isFirst f).choose_spec

/-- The squared distance of input `b` to the weights of unit `k`. -/
def cost (X W : Fin 1024 → Fin 64 → ℝ) (b k : Fin 1024) : ℝ := ∑ d, (X b d - W k d) * (X b d - W k d)

/-- The best-matching unit of input `b`. -/
def best (X W : Fin 1024 → Fin 64 → ℝ) (b : Fin 1024) : Fin 1024 := first (cost X W b)

/-- The squared grid distance of two units. -/
def gap (k l : Fin 1024) : ℤ :=
  ((k.val / 32 : ℕ) - (l.val / 32 : ℕ) : ℤ) * ((k.val / 32 : ℕ) - (l.val / 32 : ℕ) : ℤ)
    + ((k.val % 32 : ℕ) - (l.val % 32 : ℕ) : ℤ) * ((k.val % 32 : ℕ) - (l.val % 32 : ℕ) : ℤ)

theorem gap_nonneg (k l : Fin 1024) : 0 ≤ gap k l := add_nonneg (mul_self_nonneg _) (mul_self_nonneg _)

theorem gap_le (k l : Fin 1024) : gap k l ≤ 1922 := by
  unfold gap
  have a1 : -31 ≤ ((k.val / 32 : ℕ) - (l.val / 32 : ℕ) : ℤ) := by omega
  have a2 : ((k.val / 32 : ℕ) - (l.val / 32 : ℕ) : ℤ) ≤ 31 := by omega
  have b1 : -31 ≤ ((k.val % 32 : ℕ) - (l.val % 32 : ℕ) : ℤ) := by omega
  have b2 : ((k.val % 32 : ℕ) - (l.val % 32 : ℕ) : ℤ) ≤ 31 := by omega
  nlinarith

/-- The neighbourhood strength at squared grid distance `g`, learning rate `lr` and squared radius `nr2`. -/
def strength (lr nr2 : ℝ) (g : ℤ) : ℝ := if (g : ℝ) < nr2 then lr * exp (-(1 / 2) * g / nr2) else 0

/-- One training step: the weights moved by the mean of the strengths times the gaps. -/
def next (lr nr2 : ℝ) (X W : Fin 1024 → Fin 64 → ℝ) (k : Fin 1024) (d : Fin 64) : ℝ :=
  W k d + (∑ b, strength lr nr2 (gap k (best X W b)) * (X b d - W k d)) / 1024

/-- The step with the sums of the strengths and of the strengths times the inputs taken apart. -/
theorem next_eq (lr nr2 : ℝ) (X W : Fin 1024 → Fin 64 → ℝ) (k : Fin 1024) (d : Fin 64) :
    next lr nr2 X W k d = W k d * (1 - (∑ b, strength lr nr2 (gap k (best X W b))) * (1 / 1024))
      + (∑ b, strength lr nr2 (gap k (best X W b)) * X b d) * (1 / 1024) := by
  unfold next
  simp only [mul_sub, Finset.sum_sub_distrib, ← Finset.sum_mul]
  ring

/-- The squared distance, expanded. -/
theorem cost_eq (X W : Fin 1024 → Fin 64 → ℝ) (b k : Fin 1024) :
    (∑ d, W k d * W k d) + (∑ d, W k d * (-2 * X b d)) = cost X W b k + -(∑ d, X b d * X b d) := by
  unfold cost
  rw [← Finset.sum_add_distrib, ← Finset.sum_neg_distrib, ← Finset.sum_add_distrib]
  exact Finset.sum_congr rfl fun d _ => by ring

/-- A finite sum of reals, as an extended real. -/
theorem coe_sum {n : ℕ} (f : Fin n → ℝ) : ∑ x, ((f x : ℝ) : EReal) = ((∑ x, f x : ℝ) : EReal) := by
  have (s : Finset (Fin n)) : ∑ x ∈ s, ((f x : ℝ) : EReal) = ((∑ x ∈ s, f x : ℝ) : EReal) := by
    induction s using Finset.cons_induction with
    | empty => simp
    | cons a s ha ih => rw [Finset.sum_cons, Finset.sum_cons, ih, EReal.coe_add]
  exact this _

end Som

end
-- ==== Proof.Levels.lean ====
module

public import proofs.«01_k».proof.Proof.Model

/-!
The five levels of the training schedule: at each, the kernel's threshold on the exponent separates the squared grid
distances below the squared radius from those at or above it.
-/

@[expose] public section

noncomputable section

namespace Som

open Real

/-- What the threshold `T` must do for the learning rate `lr` and the squared radius `nr2`: separate the squared
distances up to `D` from those above, where `D` is the last integer below `nr2`. -/
structure Level (lr nr2 T : ℝ) : Prop where
  lr_pos : 0 < lr
  nr2_pos : 0 < nr2
  cut : ∃ D : ℤ, (D : ℝ) < nr2 ∧ nr2 ≤ D + 1 ∧ T * log 2 < -(1 / 2) * D / nr2 + log lr
    ∧ -(1 / 2) * (D + 1) / nr2 + log lr ≤ T * log 2

/-- The exponent at squared distance `g`. -/
def power (lr nr2 : ℝ) (g : ℤ) : ℝ := -(1 / 2 * (log 2 * nr2)⁻¹) * g + log lr * (log 2)⁻¹

theorem power_mul {lr nr2 T : ℝ} (h : Level lr nr2 T) (g : ℤ) : power lr nr2 g * log 2 = -(1 / 2) * g / nr2 + log lr := by
  have h2 : log 2 ≠ 0 := (log_pos (by norm_num)).ne'
  have hn : nr2 ≠ 0 := h.nr2_pos.ne'
  unfold power
  field_simp

theorem power_gt_iff {lr nr2 T : ℝ} (h : Level lr nr2 T) (g : ℤ) : T < power lr nr2 g ↔ (g : ℝ) < nr2 := by
  have h2 : 0 < log 2 := log_pos (by norm_num)
  obtain ⟨D, d1, d2, d3, d4⟩ := h.cut
  rw [← mul_lt_mul_iff_left₀ h2, power_mul h]
  constructor
  · intro hg
    by_contra hc
    have hi : D + 1 ≤ g := by
      have : (D : ℝ) < g := by linarith
      exact_mod_cast this
    have hr : ((D : ℝ) + 1) ≤ g := by exact_mod_cast hi
    have := div_le_div_of_nonneg_right hr h.nr2_pos.le
    have e1 : -(1 / 2) * (g : ℝ) / nr2 = -(1 / 2) * (g / nr2) := by ring
    have e2 : -(1 / 2) * ((D : ℝ) + 1) / nr2 = -(1 / 2) * ((D + 1) / nr2) := by ring
    rw [e1] at hg; rw [e2] at d4
    linarith
  · intro hg
    have hi : g ≤ D := by
      have : (g : ℝ) < D + 1 := by linarith
      have : g < D + 1 := by exact_mod_cast this
      omega
    have hr : (g : ℝ) ≤ D := by exact_mod_cast hi
    have := div_le_div_of_nonneg_right hr h.nr2_pos.le
    have e1 : -(1 / 2) * (g : ℝ) / nr2 = -(1 / 2) * (g / nr2) := by ring
    have e2 : -(1 / 2) * (D : ℝ) / nr2 = -(1 / 2) * (D / nr2) := by ring
    rw [e1]; rw [e2] at d3
    linarith

theorem rpow_power {lr nr2 T : ℝ} (h : Level lr nr2 T) (g : ℤ) :
    (2 : ℝ) ^ power lr nr2 g = lr * exp (-(1 / 2) * g / nr2) := by
  rw [rpow_def_of_pos (by norm_num), mul_comm (log 2), power_mul h, exp_add, exp_log h.lr_pos, mul_comm]

/-- The kernel's strength: two to the exponent above the threshold, zero elsewhere. -/
theorem strength_eq {lr nr2 T : ℝ} (h : Level lr nr2 T) (g : ℤ) :
    strength lr nr2 g = if T < power lr nr2 g then (2 : ℝ) ^ power lr nr2 g else 0 := by
  simp only [strength, power_gt_iff h, rpow_power h]

/-- Rational bounds on a logarithm, from ten terms of the exponential series. -/
theorem log_near {y : ℝ} (a b : ℝ) (hy : 0 < y) (ha : |a| ≤ 1) (hb : |b| ≤ 1)
    (h1 : ∑ m ∈ Finset.range 10, a ^ m / (m.factorial : ℝ) + |a| ^ 10 * (11 / 36288000) ≤ y)
    (h2 : y ≤ ∑ m ∈ Finset.range 10, b ^ m / (m.factorial : ℝ) - |b| ^ 10 * (11 / 36288000)) : a ≤ log y ∧ log y ≤ b := by
  have e (x : ℝ) (hx : |x| ≤ 1) : |exp x - ∑ m ∈ Finset.range 10, x ^ m / (m.factorial : ℝ)| ≤ |x| ^ 10 * (11 / 36288000) := by
    refine (exp_bound hx (n := 10) (by norm_num)).trans (le_of_eq ?_)
    norm_num [Nat.factorial]
  have ea := abs_le.1 (e a ha)
  have eb := abs_le.1 (e b hb)
  exact ⟨(le_log_iff_exp_le hy).2 (by linarith [ea.2]), (log_le_iff_le_exp hy).2 (by linarith [eb.1])⟩

theorem log_two_near : (69314 / 100000 : ℝ) ≤ log 2 ∧ log 2 ≤ 69315 / 100000 := by
  refine log_near _ _ ?_ ?_ ?_ ?_ ?_ <;> norm_num [abs_of_pos, Finset.sum_range_succ, Nat.factorial]

/-- A level from bounds on the logarithm of `lr * 2 ^ n` and rational inequalities. -/
theorem level_of {lr nr2 T : ℝ} (D : ℤ) (n : ℕ) (a b : ℝ) (hlr0 : 0 < lr) (hl : a ≤ log (lr * 2 ^ n) ∧ log (lr * 2 ^ n) ≤ b)
    (hn : 0 < nr2) (d1 : (D : ℝ) < nr2) (d2 : nr2 ≤ D + 1) (hT : T + n ≤ 0)
    (d3 : (T + n) * (69314 / 100000) < -(1 / 2) * D / nr2 + a)
    (d4 : -(1 / 2) * (D + 1) / nr2 + b ≤ (T + n) * (69315 / 100000)) : Level lr nr2 T := by
  have h2n : (0 : ℝ) < 2 ^ n := by positivity
  rw [log_mul hlr0.ne' h2n.ne', log_pow] at hl
  have m1 := mul_le_mul_of_nonpos_left log_two_near.1 hT
  have m2 := mul_le_mul_of_nonpos_left log_two_near.2 hT
  refine ⟨hlr0, hn, D, d1, d2, ?_, ?_⟩
  · linarith [hl.1]
  · linarith [hl.2]

theorem level0 : Level (13421773 / 134217728) (256) (-8476409 / 2097152) := by
  refine level_of 255 3 (-22317 / 100000) (-22312 / 100000) ?_ (log_near _ _ ?_ ?_ ?_ ?_ ?_) ?_ ?_ ?_ ?_ ?_ ?_ <;>
    norm_num [abs_le, abs_of_pos, abs_of_neg, Finset.sum_range_succ, Nat.factorial]

theorem level1 : Level (5494409 / 67108864) (11068835 / 131072) (-2271349 / 524288) := by
  refine level_of 84 4 (26998 / 100000) (27003 / 100000) ?_ (log_near _ _ ?_ ?_ ?_ ?_ ?_) ?_ ?_ ?_ ?_ ?_ ?_ <;>
    norm_num [abs_le, abs_of_pos, abs_of_neg, Finset.sum_range_succ, Nat.factorial]

theorem level2 : Level (8996883 / 134217728) (14605415 / 524288) (-2417541 / 524288) := by
  refine level_of 27 4 (6998 / 100000) (7003 / 100000) ?_ (log_near _ _ ?_ ?_ ?_ ?_ ?_) ?_ ?_ ?_ ?_ ?_ ?_ <;>
    norm_num [abs_le, abs_of_pos, abs_of_neg, Finset.sum_range_succ, Nat.factorial]

theorem level3 : Level (7366025 / 134217728) (2408995 / 262144) (-5172897 / 1048576) := by
  refine level_of 9 4 (-13002 / 100000) (-12997 / 100000) ?_ (log_near _ _ ?_ ?_ ?_ ?_ ?_) ?_ ?_ ?_ ?_ ?_ ?_ <;>
    norm_num [abs_le, abs_of_pos, abs_of_neg, Finset.sum_range_succ, Nat.factorial]

theorem level4 : Level (12061583 / 268435456) (49667 / 16384) (-11133633 / 2097152) := by
  refine level_of 3 4 (-33002 / 100000) (-32997 / 100000) ?_ (log_near _ _ ?_ ?_ ?_ ?_ ?_) ?_ ?_ ?_ ?_ ?_ ?_ <;>
    norm_num [abs_le, abs_of_pos, abs_of_neg, Finset.sum_range_succ, Nat.factorial]

/-- The weights after four steps. -/
def wFour (X W : Fin 1024 → Fin 64 → ℝ) : Fin 1024 → Fin 64 → ℝ :=
  next (7366025 / 134217728) (2408995 / 262144) X (next (8996883 / 134217728) (14605415 / 524288) X
    (next (5494409 / 67108864) (11068835 / 131072) X (next (13421773 / 134217728) 256 X W)))

/-- The result: the rows of the weights after five steps at the best-matching units of the fifth. -/
def output (X W : Fin 1024 → Fin 64 → ℝ) (b : Fin 1024) (d : Fin 64) : ℝ :=
  next (12061583 / 268435456) (49667 / 16384) X (wFour X W) (best X (wFour X W) b) d

end Som

end
-- ==== Proof.Words.lean ====
module

public import Idealize.ShloMosaic.Lib.Pointwise
public import Idealize.ShloMosaic.Lib.IdealHost

/-!
The real numbers that the 32-bit words of the two programs stand for.
-/

@[expose] public section

noncomputable section

namespace Som

open Idealize.ShloMosaic

theorem word_neg_two : Ideal.ofBits .f32 0xC0000000#32 = ((-2 : ℝ) : EReal) := by
  simp [Ideal.ofBits, Ideal.ieee, -EReal.coe_mul]; norm_num
theorem word_part : Ideal.ofBits .f32 0x3A800000#32 = ((1 / 1024 : ℝ) : EReal) := by
  simp [Ideal.ofBits, Ideal.ieee, -EReal.coe_mul]; norm_num
theorem word_count : Ideal.ofBits .f32 0x44800000#32 = ((1024 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_top : Ideal.ofBits .f32 0x7F800000#32 = ⊤ := by
  simp [Ideal.ofBits, Ideal.ieee]

theorem rate0 : Ideal.ofBits .f32 0x3DCCCCCD#32 = ((13421773 / 134217728 : ℝ) : EReal) := by
  simp [Ideal.ofBits, Ideal.ieee, -EReal.coe_mul]; norm_num
theorem rate1 : Ideal.ofBits .f32 0x3DA7AD12#32 = ((5494409 / 67108864 : ℝ) : EReal) := by
  simp [Ideal.ofBits, Ideal.ieee, -EReal.coe_mul]; norm_num
theorem rate2 : Ideal.ofBits .f32 0x3D894813#32 = ((8996883 / 134217728 : ℝ) : EReal) := by
  simp [Ideal.ofBits, Ideal.ieee, -EReal.coe_mul]; norm_num
theorem rate3 : Ideal.ofBits .f32 0x3D60CB12#32 = ((7366025 / 134217728 : ℝ) : EReal) := by
  simp [Ideal.ofBits, Ideal.ieee, -EReal.coe_mul]; norm_num
theorem rate4 : Ideal.ofBits .f32 0x3D380B8F#32 = ((12061583 / 268435456 : ℝ) : EReal) := by
  simp [Ideal.ofBits, Ideal.ieee, -EReal.coe_mul]; norm_num

theorem radius0 : Ideal.ofBits .f32 0x43800000#32 = ((256 : ℝ) : EReal) := by
  simp [Ideal.ofBits, Ideal.ieee, -EReal.coe_mul]; norm_num
theorem radius1 : Ideal.ofBits .f32 0x42A8E5A3#32 = ((11068835 / 131072 : ℝ) : EReal) := by
  simp [Ideal.ofBits, Ideal.ieee, -EReal.coe_mul]; norm_num
theorem radius2 : Ideal.ofBits .f32 0x41DEDC67#32 = ((14605415 / 524288 : ℝ) : EReal) := by
  simp [Ideal.ofBits, Ideal.ieee, -EReal.coe_mul]; norm_num
theorem radius3 : Ideal.ofBits .f32 0x4113088C#32 = ((2408995 / 262144 : ℝ) : EReal) := by
  simp [Ideal.ofBits, Ideal.ieee, -EReal.coe_mul]; norm_num
theorem radius4 : Ideal.ofBits .f32 0x40420300#32 = ((49667 / 16384 : ℝ) : EReal) := by
  simp [Ideal.ofBits, Ideal.ieee, -EReal.coe_mul]; norm_num

theorem cut0 : Ideal.ofBits .f32 0xC08156F9#32 = ((-8476409 / 2097152 : ℝ) : EReal) := by
  simp [Ideal.ofBits, Ideal.ieee, -EReal.coe_mul]; norm_num
theorem cut1 : Ideal.ofBits .f32 0xC08AA1D4#32 = ((-2271349 / 524288 : ℝ) : EReal) := by
  simp [Ideal.ofBits, Ideal.ieee, -EReal.coe_mul]; norm_num
theorem cut2 : Ideal.ofBits .f32 0xC0938E14#32 = ((-2417541 / 524288 : ℝ) : EReal) := by
  simp [Ideal.ofBits, Ideal.ieee, -EReal.coe_mul]; norm_num
theorem cut3 : Ideal.ofBits .f32 0xC09DDD42#32 = ((-5172897 / 1048576 : ℝ) : EReal) := by
  simp [Ideal.ofBits, Ideal.ieee, -EReal.coe_mul]; norm_num
theorem cut4 : Ideal.ofBits .f32 0xC0A9E2C1#32 = ((-11133633 / 2097152 : ℝ) : EReal) := by
  simp [Ideal.ofBits, Ideal.ieee, -EReal.coe_mul]; norm_num

end Som

end
-- ==== Proof.KernelValue.lean ====
module

public import proofs.«01_k».proof.Proof.KernelStep
public import proofs.«01_k».proof.Proof.Levels
public import proofs.«01_k».proof.Proof.Words

/-!
The kernel's training step on real matrices: it is the model's step.
-/

@[expose] public section

set_option maxRecDepth 16384

noncomputable section

namespace Cert.KernelIdeal.Body

open Cert.KernelIdeal Cert.KernelIdeal.Gen Idealize.ShloMosaic Idealize.ShloMosaic.TcCoe Idealize.SL.Sem

/-- A real matrix as an array. -/
def emb (W : Fin 1024 → Fin 64 → ℝ) : FVec Ideal S1024x64 .f32 := fun i => ((W (i 0) (i 1) : ℝ) : EReal)

theorem emb_at (W : Fin 1024 → Fin 64 → ℝ) (k : Fin 1024) (d : Fin 64) : emb W (ix2 k d) = ((W k d : ℝ) : EReal) := rfl

/-- The first piece of the widened inputs. -/
def front (x : FVec Ideal S1024x64 .f32) : FVec Ideal S1024x65 .bf16 := truncf .bf16 (wide x) bitsLt_bf16_f32

/-- The second piece of the widened inputs. -/
def back (x : FVec Ideal S1024x64 .f32) : FVec Ideal S1024x65 .bf16 :=
  truncf .bf16 (subf (wide x) (extf .f32 (truncf .bf16 (wide x) bitsLt_bf16_f32) bitsLt_bf16_f32)) bitsLt_bf16_f32

/-- The widened inputs over the reals. -/
def wideReal (X : Fin 1024 → Fin 64 → ℝ) (b : Fin 1024) (d : Fin 65) : ℝ := if h : d.val < 64 then X b ⟨d.val, h⟩ else 1

theorem front_at (X : Fin 1024 → Fin 64 → ℝ) (b : Fin 1024) (d : Fin 65) :
    front (emb X) (ix2 b d) = ((wideReal X b d : ℝ) : EReal) := by
  pointwise [front, wide, emb_at]
  unfold wideReal
  split <;> simp

theorem back_at (X : Fin 1024 → Fin 64 → ℝ) (b : Fin 1024) (d : Fin 65) :
    back (emb X) (ix2 b d) = 0 := by
  have h := front_at X b d
  have e : back (emb X) (ix2 b d) = front (emb X) (ix2 b d) - front (emb X) (ix2 b d) := rfl
  rw [e, h, ← EReal.coe_sub, sub_self, EReal.coe_zero]

theorem score_at (X W : Fin 1024 → Fin 64 → ℝ) (k b : Fin 1024) :
    score (turned (emb X)) (emb W) (ix2 k b) = ((Som.cost X W b k + -(∑ d, X b d * X b d) : ℝ) : EReal) := by
  pointwise [score, turned, emb_at]
  simp only [Som.word_neg_two, ← EReal.coe_mul, Som.coe_sum, ← EReal.coe_add]
  exact congrArg _ (Som.cost_eq X W b k)

theorem every (i : S1024x1024.Idx) : ∃ a b : Fin 1024, i = ix2 a b := ⟨i 0, i 1, eq_ix2 i⟩

/-- The least index of a column, where it is first least. -/
theorem reduceIndex_at (v : FVec Ideal S1024x1024 .f32) (f : Fin 1024 → ℝ) (b k : Fin 1024)
    (hv : ∀ j, v (ix2 j b) = ((f j : ℝ) : EReal)) (hk : Som.IsFirst f k) :
    reduceIndex .argMin 0 S1024 v reduces_S1024x1024_S1024 (ix1 b) = BitVec.ofNat 32 k.val := by
  show Ideal.reduceIndex .argMin 0 reduces_S1024x1024_S1024 v (ix1 b) = _
  have hd (i j : Fin 1024) : (reduces_S1024x1024_S1024).drop (ix2 i j) = ix1 j := by
    funext a
    fin_cases a
    rfl
  unfold Ideal.reduceIndex
  simp only [reduceCtorEq, if_false, Finset.mem_filter, Finset.mem_univ, true_and]
  refine congrArg (BitVec.ofNat 32) ?_
  generalize hS : Finset.image (fun i : S1024x1024.Idx => (i 0).val) _ = S
  have mem (x : ℕ) : x ∈ S ↔ ∃ j : Fin 1024, (∀ j', f j ≤ f j') ∧ j.val = x := by
    rw [← hS]
    simp only [Finset.mem_image, Finset.mem_filter, Finset.mem_univ, true_and]
    constructor
    · rintro ⟨i, ⟨hi, hmin⟩, rfl⟩
      obtain ⟨p, q, rfl⟩ := every i
      have hb : q = b := congrFun ((hd p q).symm.trans hi) 0
      subst hb
      refine ⟨p, fun j' => ?_, rfl⟩
      have := not_lt.1 (hmin (ix2 j' q) (hd j' q))
      rw [hv, hv] at this
      exact EReal.coe_le_coe_iff.1 this
    · rintro ⟨j, hj, rfl⟩
      refine ⟨ix2 j b, ⟨hd j b, fun i' hi' => ?_⟩, rfl⟩
      obtain ⟨p, q, rfl⟩ := every i'
      have hb : q = b := congrFun ((hd p q).symm.trans hi') 0
      subst hb
      rw [hv, hv]
      exact not_lt.2 (EReal.coe_le_coe_iff.2 (hj p))
  have hmin : S.min = (k.val : WithTop ℕ) := by
    refine le_antisymm (Finset.min_le ((mem _).2 ⟨k, hk.1, rfl⟩)) (Finset.le_min fun x hx => ?_)
    obtain ⟨j, hj, rfl⟩ := (mem x).1 hx
    refine WithTop.coe_le_coe.2 (not_lt.1 fun hlt => ?_)
    exact absurd (hk.2 j hlt) (not_lt.2 (hj k))
  rw [hmin]
  rfl

/-- The kernel's best-matching unit is the model's. -/
theorem best_at (X W : Fin 1024 → Fin 64 → ℝ) (b : Fin 1024) :
    best (F := Ideal) (turned (emb X)) (emb W) (ix2 0 b) = BitVec.ofNat 32 (Som.best X W b).val := by
  pointwise [best]
  refine reduceIndex_at _ (fun j => Som.cost X W b j + -(∑ d, X b d * X b d)) b _ (fun j => score_at X W j b) ?_
  exact Som.IsFirst.shift (∑ d, X b d * X b d) (fun j => by ring) (Som.first_spec (Som.cost X W b))

theorem high_val : ∀ k : Fin 1024, (IntOp.shrsi ArithUnit.vector (BitVec.ofNat 32 k.val) 5#32).toInt = ((k.val / 32 : ℕ) : ℤ) := by decide +kernel
theorem low_val : ∀ k : Fin 1024, (IntOp.andi (BitVec.ofNat 32 k.val) 31#32).toInt = ((k.val % 32 : ℕ) : ℤ) := by decide +kernel

theorem sitofp_eq (w : BitVec 32) : FloatOps.sitofp (F := Ideal) FTy.f32 w = (((w.toInt : ℤ) : ℝ) : EReal) := rfl

theorem expo_at (lr nr2 : ℝ) (u : IVec S1x1024 32) (k b l : Fin 1024) (hu : u (ix2 0 b) = BitVec.ofNat 32 l.val) :
    expo (F := Ideal) (((Real.log 2 * nr2)⁻¹ : ℝ) : EReal) ((-(1 / 2 * (Real.log 2 * nr2)⁻¹) : ℝ) : EReal)
      ((Real.log lr * (Real.log 2)⁻¹ : ℝ) : EReal) u (ix2 k b) = ((Som.power lr nr2 (Som.gap k l) : ℝ) : EReal) := by
  pointwise [expo, high, low, norm, units]
  simp only [sitofp_eq, hu, high_val, low_val, ← EReal.coe_mul, ← EReal.coe_add]
  refine congrArg _ ?_
  unfold Som.power Som.gap
  push_cast
  ring

theorem strength_at {lr nr2 T : ℝ} (hT : Som.Level lr nr2 T) (e : FVec Ideal S1024x1024 .f32) (k b : Fin 1024) (g : ℤ)
    (he : e (ix2 k b) = ((Som.power lr nr2 g : ℝ) : EReal)) :
    strength (F := Ideal) (T : EReal) e (ix2 k b) = ((Som.strength lr nr2 g : ℝ) : EReal) := by
  pointwise [strength]
  rw [he, Som.strength_eq hT]
  by_cases h : T < Som.power lr nr2 g
  · rw [if_pos h, if_pos (EReal.coe_lt_coe_iff.2 h)]
    rfl
  · rw [if_neg h, if_neg (fun h' => h (EReal.coe_lt_coe_iff.1 h'))]
    rfl

theorem moved_at (X W : Fin 1024 → Fin 64 → ℝ) (S : Fin 1024 → Fin 1024 → ℝ) (e : FVec Ideal S1024x1024 .f32)
    (he : ∀ k b, e (ix2 k b) = ((S k b : ℝ) : EReal)) (k : Fin 1024) (d : Fin 64) :
    moved (F := Ideal) (emb W) (sums (front (emb X)) (back (emb X)) e) (ix2 k d)
      = ((W k d * (1 - (∑ b, S k b) * (1 / 1024)) + (∑ b, S k b * X b d) * (1 / 1024) : ℝ) : EReal) := by
  pointwise [moved, sums]
  have w1 (b : Fin 1024) : wideReal X b 64 = 1 := rfl
  have w2 (b : Fin 1024) : wideReal X b ⟨d.val, by omega⟩ = X b d := by simp [wideReal]
  simp only [he, front_at, back_at, emb_at, Som.word_part, w1, w2, ← EReal.coe_one, ← EReal.coe_zero, ← EReal.coe_mul, ← EReal.coe_sub, Som.coe_sum, ← EReal.coe_add]
  refine congrArg _ ?_
  simp

/-- The kernel's step is the model's. -/
theorem step_eq {lr nr2 T : ℝ} (hT : Som.Level lr nr2 T) (M C B T' : EReal) (hM : M = (((Real.log 2 * nr2)⁻¹ : ℝ) : EReal))
    (hC : C = ((-(1 / 2 * (Real.log 2 * nr2)⁻¹) : ℝ) : EReal)) (hB : B = ((Real.log lr * (Real.log 2)⁻¹ : ℝ) : EReal)) (hT' : T' = (T : EReal))
    (X W : Fin 1024 → Fin 64 → ℝ) :
    step (F := Ideal) M C B T' (front (emb X)) (back (emb X)) (turned (emb X)) (emb W) = emb (Som.next lr nr2 X W) := by
  subst hM hC hB hT'
  funext i
  rw [eq_ix2 i]
  refine (moved_at X W (fun k b => Som.strength lr nr2 (Som.gap k (Som.best X W b))) _ (fun k b => ?_) (i 0) (i 1)).trans
    (congrArg _ (Som.next_eq lr nr2 X W (i 0) (i 1)).symm)
  exact strength_at hT _ k b _ (expo_at lr nr2 _ k b _ (best_at X W b))

theorem pick_at (u : IVec S1x1024 32) (W : Fin 1024 → Fin 64 → ℝ) (b l : Fin 1024) (d : Fin 64) (hu : u (ix2 0 b) = BitVec.ofNat 32 l.val) :
    pick (F := Ideal) (onehot u) (emb W) (ix2 b d) = ((W l d : ℝ) : EReal) := by
  have hs (x : Fin 1024) : FloatOps.sitofp (F := Ideal) FTy.f32 (BitVec.setWidth 32 (IntOp.cmpi CmpIPredicate.eq (BitVec.ofNat 32 x.val) (BitVec.ofNat 32 l.val)))
      = ((if x = l then 1 else 0 : ℝ) : EReal) := by
    rw [sitofp_eq]
    by_cases h : x = l
    · subst h
      simp [IntOp.cmpi]
    · have hne : BitVec.ofNat 32 x.val ≠ BitVec.ofNat 32 l.val := fun e => h (Fin.ext (by
        have := congrArg BitVec.toNat e
        simp only [BitVec.toNat_ofNat] at this
        omega))
      rw [if_neg h]
      simp [IntOp.cmpi, beq_eq_false_iff_ne.2 hne]
  pointwise [pick, onehot, rest]
  simp only [hu, hs, emb_at, ← EReal.coe_mul, ← EReal.coe_sub, Som.coe_sum, ← EReal.coe_add]
  refine congrArg _ ?_
  simp

/-- The value of a named constant. -/
theorem named_eq {name : String} {w : BitVec 32} {v : EReal} (h : κ name = some v) : Named.named (F := Ideal) κ name (φ := .f32) w = v :=
  IdealRules.named_const.ideal_named_scalar _ _ _ _ h

theorem cut_eq {w : BitVec 32} {v : EReal} (h : Ideal.ofBits .f32 w = v) : Scalar.ofBits (F := Ideal) .f32 w = v := h

/-- The weights after four steps are the model's. -/
theorem w4_eq (X W : Fin 1024 → Fin 64 → ℝ) :
    w4 (F := Ideal) (front (emb X)) (back (emb X)) (turned (emb X)) (emb W) = emb (Som.wFour X W) := by
  unfold w4 Som.wFour
  rw [step_eq Som.level0 _ _ _ _ (named_eq rfl) (named_eq rfl) (named_eq rfl) (cut_eq Som.cut0),
    step_eq Som.level1 _ _ _ _ (named_eq rfl) (named_eq rfl) (named_eq rfl) (cut_eq Som.cut1),
    step_eq Som.level2 _ _ _ _ (named_eq rfl) (named_eq rfl) (named_eq rfl) (cut_eq Som.cut2),
    step_eq Som.level3 _ _ _ _ (named_eq rfl) (named_eq rfl) (named_eq rfl) (cut_eq Som.cut3)]

/-- The kernel's result is the model's. -/
theorem whole_eq (X W : Fin 1024 → Fin 64 → ℝ) : whole (F := Ideal) (emb X) (emb W) = emb (Som.output X W) := by
  show result (front (emb X)) (back (emb X)) (turned (emb X)) (emb W) = _
  unfold result
  rw [w4_eq, step_eq Som.level4 _ _ _ _ (named_eq rfl) (named_eq rfl) (named_eq rfl) (cut_eq Som.cut4)]
  funext i
  rw [eq_ix2 i]
  exact pick_at _ _ _ _ _ (best_at X (Som.wFour X W) (i 0))

end Cert.KernelIdeal.Body

end
-- ==== Proof.RefValue.lean ====
module

public import proofs.«01_k».proof.Proof.RefRun
public import proofs.«01_k».proof.Proof.Levels
public import proofs.«01_k».proof.Proof.Words
public import Idealize.ShloMosaic.Lib.Routing.Ops

/-!
The reference's training step on real matrices: it is the model's step.
-/

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

/-- A real matrix as an array. -/
def emb (W : Fin 1024 → Fin 64 → ℝ) : FVec Ideal S1024x64 .f32 := fun i => ((W (i 0) (i 1) : ℝ) : EReal)

theorem emb_at (W : Fin 1024 → Fin 64 → ℝ) (k : Fin 1024) (d : Fin 64) : emb W (ix2 k d) = ((W k d : ℝ) : EReal) := rfl

theorem dist_at (X W : Fin 1024 → Fin 64 → ℝ) (b k : Fin 1024) :
    dist (lift (emb X)) (emb W) (ix2 b k) = ((Som.cost X W b k : ℝ) : EReal) := by
  pointwise [dist, gap, lift, emb_at]
  simp only [← EReal.coe_sub, ← EReal.coe_mul, Som.coe_sum]
  rfl

/-! ## The first least index -/

/-- The order of the pairs: by value, then by index. -/
def Below (p q : EReal × BitVec 32) : Prop := p.1 < q.1 ∨ (p.1 = q.1 ∧ p.2.toInt ≤ q.2.toInt)

theorem Below.refl (p : EReal × BitVec 32) : Below p p := Or.inr ⟨rfl, le_rfl⟩

theorem Below.trans {p q r : EReal × BitVec 32} (h : Below p q) (h' : Below q r) : Below p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The reducer keeps the pair that is below. -/
theorem reducer_spec (p q : EReal × BitVec 32) :
    (reducer_argmin_f32_i32 (F := Ideal) p q = p ∧ Below p q) ∨ (reducer_argmin_f32_i32 (F := Ideal) p q = q ∧ Below q p) := by
  obtain ⟨a, i⟩ := p
  obtain ⟨b, j⟩ := q
  unfold Below
  have key : reducer_argmin_f32_i32 (F := Ideal) (a, i) (b, j)
      = (if a < b then a else b, if a < b ∨ (a = b ∧ i.toInt < j.toInt) then i else j) := by
    simp only [reducer_argmin_f32_i32, Ideal.cmpf_def, Ideal.cmp, IntOp.cmpi, IntOp.ori, IntOp.andi, Scalar.select, BitVec.slt]
    by_cases h1 : a < b <;> by_cases h2 : a = b <;> by_cases h3 : i.toInt < j.toInt <;> simp [h1, h2, h3]
  rw [key]
  rcases lt_trichotomy a b with h | h | h
  · left
    simp [h]
  · subst h
    by_cases h3 : i.toInt < j.toInt
    · left
      simp [h3, h3.le]
    · right
      simp [h3, not_lt.1 h3]
  · right
    simp [h, h.not_gt, h.ne']

/-- The fold of the reducer is an element of the list or the start, and below all of them. -/
theorem fold_spec (L : List (EReal × BitVec 32)) (p : EReal × BitVec 32) :
    (L.foldl (reducer_argmin_f32_i32 (F := Ideal)) p = p ∨ L.foldl (reducer_argmin_f32_i32 (F := Ideal)) p ∈ L)
      ∧ Below (L.foldl (reducer_argmin_f32_i32 (F := Ideal)) p) p ∧ ∀ q ∈ L, Below (L.foldl (reducer_argmin_f32_i32 (F := Ideal)) p) q := by
  induction L generalizing p with
  | nil => exact ⟨Or.inl rfl, Below.refl p, fun _ h => absurd h List.not_mem_nil⟩
  | cons a L ih =>
    rw [List.foldl_cons]
    obtain ⟨h1, h2, h3⟩ := ih (reducer_argmin_f32_i32 (F := Ideal) p a)
    rcases reducer_spec p a with ⟨e, hb⟩ | ⟨e, hb⟩
    · rw [e] at h1 h2 h3 ⊢
      refine ⟨h1.imp id (List.mem_cons_of_mem _), h2, fun q hq => ?_⟩
      rcases List.mem_cons.1 hq with rfl | hq
      · exact h2.trans hb
      · exact h3 q hq
    · rw [e] at h1 h2 h3 ⊢
      refine ⟨Or.inr ?_, h2.trans hb, fun q hq => ?_⟩
      · rcases h1 with h1 | h1
        · rw [h1]; exact List.mem_cons_self
        · exact List.mem_cons_of_mem _ h1
      · rcases List.mem_cons.1 hq with rfl | hq
        · exact h2
        · exact h3 q hq

theorem every (i : S1024x1024.Idx) : ∃ a b : Fin 1024, i = ix2 a b := ⟨i 0, i 1, eq_ix2 i⟩

theorem number_val : ∀ k : Fin 1024, (BitVec.ofNat 32 k.val).toInt = (k.val : ℤ) := by decide +kernel

/-- The unit at which a row is first least. -/
theorem least_at (v : FVec Ideal S1024x1024 .f32) (f : Fin 1024 → ℝ) (b k : Fin 1024)
    (hv : ∀ j, v (ix2 b j) = ((f j : ℝ) : EReal)) (hk : Som.IsFirst f k) : least v (ix1 b) = BitVec.ofNat 32 k.val := by
  have hd (i j : Fin 1024) : (reducesTo_S1024x1024_S1024_d1).drop (ix2 i j) = ix1 i := by
    funext a
    fin_cases a
    rfl
  show (Host.argReduce reducer_argmin_f32_i32 v (iotaInDim S1024x1024 32 1) (constant S_ .f32 0x7F800000#32)
    (constantI S_ 32 0#32) reducesTo_S1024x1024_S1024_d1 h_S_ (ix1 b)).2 = _
  rw [Ideal.argReduce_eq_reduce2, Host.reduce2_eq_foldl_fiber]
  have e1 : (constant (F := Ideal) S_ .f32 0x7F800000#32) (Shape.Idx.first h_S_) = ⊤ := Som.word_top
  rw [e1]
  have mem (p : EReal × BitVec 32) : p ∈ Host.argReduceFiber v (iotaInDim S1024x1024 32 1) reducesTo_S1024x1024_S1024_d1 (ix1 b)
      ↔ ∃ j : Fin 1024, p = (((f j : ℝ) : EReal), BitVec.ofNat 32 j.val) := by
    unfold Host.argReduceFiber
    simp only [List.mem_map, List.mem_filter, List.mem_finRange, true_and, decide_eq_true_eq]
    constructor
    · rintro ⟨n, hn, rfl⟩
      obtain ⟨i, j, e⟩ := every (S1024x1024.rowMajor.symm n)
      rw [e] at hn ⊢
      have hb : i = b := congrFun ((hd i j).symm.trans hn) 0
      subst hb
      exact ⟨j, Prod.ext (hv j) rfl⟩
    · rintro ⟨j, rfl⟩
      refine ⟨S1024x1024.rowMajor (ix2 b j), ?_, ?_⟩
      · rw [Equiv.symm_apply_apply]; exact hd b j
      · rw [Equiv.symm_apply_apply]; exact Prod.ext (hv j) rfl
  obtain ⟨h1, h2, h3⟩ := fold_spec (Host.argReduceFiber v (iotaInDim S1024x1024 32 1) reducesTo_S1024x1024_S1024_d1 (ix1 b)) (⊤, (constantI S_ 32 0#32) (Shape.Idx.first h_S_))
  generalize List.foldl _ _ _ = r at h1 h2 h3 ⊢
  have hr := h3 _ ((mem _).2 ⟨k, rfl⟩)
  have hm : ∃ j : Fin 1024, r = (((f j : ℝ) : EReal), BitVec.ofNat 32 j.val) := by
    rcases h1 with h1 | h1
    · exfalso
      subst h1
      rcases hr with h | ⟨h, -⟩
      · exact absurd h not_top_lt
      · exact EReal.coe_ne_top _ h.symm
    · exact (mem r).1 h1
  obtain ⟨j, rfl⟩ := hm
  have hj : Som.IsFirst f j := by
    have hle (l : Fin 1024) : f j < f l ∨ (f j = f l ∧ j ≤ l) := by
      rcases h3 _ ((mem _).2 ⟨l, rfl⟩) with h | ⟨h, h'⟩
      · exact Or.inl (EReal.coe_lt_coe_iff.1 h)
      · refine Or.inr ⟨EReal.coe_eq_coe_iff.1 h, ?_⟩
        have h'' : (BitVec.ofNat 32 j.val).toInt ≤ (BitVec.ofNat 32 l.val).toInt := h'
        rw [number_val, number_val] at h''
        exact Fin.le_def.2 (by exact_mod_cast h'')
    refine ⟨fun l => ?_, fun l hl => ?_⟩
    · rcases hle l with h | h
      · exact h.le
      · exact h.1.le
    · rcases hle l with h | h
      · exact h
      · exact absurd h.2 (not_le.2 hl)
  rw [hj.unique hk]

/-- The reference's best-matching unit is the model's. -/
theorem least_dist (X W : Fin 1024 → Fin 64 → ℝ) (b : Fin 1024) :
    least (dist (lift (emb X)) (emb W)) (ix1 b) = BitVec.ofNat 32 (Som.best X W b).val :=
  least_at _ (Som.cost X W b) b _ (fun j => dist_at X W b j) (Som.first_spec _)

/-! ## The rows read at the best-matching units -/

theorem wrap : ∀ l : Fin 1024, Scalar.select (IntOp.cmpi CmpIPredicate.slt (BitVec.ofNat 32 l.val) 0#32)
    (IntOp.addi (BitVec.ofNat 32 l.val) 1024#32) (BitVec.ofNat 32 l.val) = BitVec.ofNat 32 l.val := by decide +kernel

theorem column_at (u : IVec S1024 32) (b l : Fin 1024) (hu : u (ix1 b) = BitVec.ofNat 32 l.val) :
    column u (ix2 b 0) = BitVec.ofNat 32 l.val := by
  pointwise [column]
  rw [hu]
  exact wrap l

theorem rows_at (W : Fin 1024 → Fin 64 → ℝ) (u : IVec S1024 32) (b l : Fin 1024) (hu : u (ix1 b) = BitVec.ofNat 32 l.val) (d : Fin 64) :
    rows (emb W) u (ix2 b d) = ((W l d : ℝ) : EReal) := by
  unfold rows
  exact Routing.gather_row gather_S1024x64_S1024x1_S1024x64_1_0_n_n_0_1_164 rfl rfl rfl rfl rfl (emb W) (column u) b d l (column_at u b l hu) (by norm_num)

/-- The lattice: unit `k` sits at row `k / 32`, column `k % 32`. -/
def Lattice (loc : IVec S1024x2 32) : Prop :=
  ∀ k : Fin 1024, loc (ix2 k 0) = BitVec.ofNat 32 (k.val / 32) ∧ loc (ix2 k 1) = BitVec.ofNat 32 (k.val % 32)

theorem square : ∀ a b : Fin 32, IntOp.muli (IntOp.subi (BitVec.ofNat 32 a.val) (BitVec.ofNat 32 b.val)) (IntOp.subi (BitVec.ofNat 32 a.val) (BitVec.ofNat 32 b.val))
    = BitVec.ofInt 32 (((a.val : ℤ) - b.val) * ((a.val : ℤ) - b.val)) := by decide +kernel

theorem grid_at (loc : IVec S1024x2 32) (hloc : Lattice loc) (u : IVec S1024 32) (b k l : Fin 1024) (hu : u (ix1 b) = BitVec.ofNat 32 l.val) :
    (grid loc u (ix3 b k 0)).toInt = Som.gap k l := by
  have hg (x : Fin 2) : Host.gather gather_S1024x2_S1024x1_S1024x2_1_0_n_n_0_1_12 loc (column u) (ix2 b x) = loc (ix2 l x) :=
    Routing.gather_row gather_S1024x2_S1024x1_S1024x2_1_0_n_n_0_1_12 rfl rfl rfl rfl rfl loc (column u) b x l (column_at u b l hu) (by norm_num)
  pointwise [grid, shift]
  simp only [hg]
  rw [show (Finset.univ : Finset (Fin 2)) = {0, 1} from rfl, Finset.fold_insert (by decide), Finset.fold_singleton,
    (hloc k).1, (hloc k).2, (hloc l).1, (hloc l).2]
  have s1 := square ⟨k.val / 32, by omega⟩ ⟨l.val / 32, by omega⟩
  have s2 := square ⟨k.val % 32, by omega⟩ ⟨l.val % 32, by omega⟩
  simp only at s1 s2
  rw [s1, s2]
  have hs : IntOp.addi (BitVec.ofInt 32 (((k.val / 32 : ℕ) - (l.val / 32 : ℕ) : ℤ) * ((k.val / 32 : ℕ) - (l.val / 32 : ℕ) : ℤ)))
      (IntOp.addi (BitVec.ofInt 32 (((k.val % 32 : ℕ) - (l.val % 32 : ℕ) : ℤ) * ((k.val % 32 : ℕ) - (l.val % 32 : ℕ) : ℤ))) 0#32)
      = BitVec.ofInt 32 (Som.gap k l) := by
    unfold Som.gap IntOp.addi
    rw [BitVec.add_zero, BitVec.ofInt_add]
  rw [hs, BitVec.toInt_ofInt]
  have h1 := Som.gap_nonneg k l
  have h2 := Som.gap_le k l
  rw [Int.bmod_eq_of_le] <;> omega

/-! ## The strengths and the step -/

theorem strength_at (wl wn : BitVec 32) (L N : ℝ) (hl : Ideal.ofBits .f32 wl = (L : EReal)) (hn : Ideal.ofBits .f32 wn = (N : EReal)) (hN : N ≠ 0)
    (g : IVec S1024x1024x1 32) (b k : Fin 1024) :
    strength (F := Ideal) wl wn g (ix3 b k 0) = ((Som.strength L N (g (ix3 b k 0)).toInt : ℝ) : EReal) := by
  have hs (w : BitVec 32) : FloatOps.sitofp (F := Ideal) FTy.f32 w = (((w.toInt : ℤ) : ℝ) : EReal) := rfl
  pointwise [strength]
  simp only [hl, hn, hs, Som.word_neg_half, Ideal.div_coe hN, ← EReal.coe_mul, ← EReal.coe_sub, Ideal.exp_coe, Ideal.sign_coe]
  generalize (g (ix3 b k 0)).toInt = z
  unfold Som.strength
  rcases lt_trichotomy (z : ℝ) N with h | h | h
  · rw [if_pos h, sign_pos (sub_pos.2 h), mul_one_div]
    simp
  · rw [if_neg h.not_lt, h, sub_self]
    simp
  · rw [if_neg h.not_gt, sign_neg (sub_neg.2 h)]
    simp

theorem moved_at (X W : Fin 1024 → Fin 64 → ℝ) (S : Fin 1024 → Fin 1024 → ℝ) (e : FVec Ideal S1024x1024x1 .f32)
    (he : ∀ b k, e (ix3 b k 0) = ((S k b : ℝ) : EReal)) (k : Fin 1024) (d : Fin 64) :
    moved (lift (emb X)) (emb W) e (ix2 k d) = ((W k d + (∑ b, S k b * (X b d - W k d)) / 1024 : ℝ) : EReal) := by
  pointwise [moved, gap, lift, emb_at]
  simp only [he, Som.word_count, Ideal.div_coe (show (1024 : ℝ) ≠ 0 by norm_num), ← EReal.coe_sub, ← EReal.coe_mul, Som.coe_sum, ← EReal.coe_add]
  rw [mul_one_div]

/-- The reference's step is the model's. -/
theorem step_eq {wl wn : BitVec 32} {L N : ℝ} (hl : Ideal.ofBits .f32 wl = (L : EReal)) (hn : Ideal.ofBits .f32 wn = (N : EReal)) (hN : N ≠ 0)
    (X W : Fin 1024 → Fin 64 → ℝ) (loc : IVec S1024x2 32) (hloc : Lattice loc) :
    step (F := Ideal) wl wn (lift (emb X)) loc (emb W) = emb (Som.next L N X W) := by
  funext i
  rw [eq_ix2 i]
  refine moved_at X W (fun k b => Som.strength L N (Som.gap k (Som.best X W b))) _ (fun b k => ?_) (i 0) (i 1)
  rw [strength_at wl wn L N hl hn hN, grid_at loc hloc _ b k _ (least_dist X W b)]

/-- The weights after four steps are the model's. -/
theorem w4_eq (X W : Fin 1024 → Fin 64 → ℝ) (loc : IVec S1024x2 32) (hloc : Lattice loc) :
    w4 (F := Ideal) (lift (emb X)) loc (emb W) = emb (Som.wFour X W) := by
  unfold w4 Som.wFour
  rw [step_eq Som.rate0 Som.radius0 (by norm_num) X _ loc hloc, step_eq Som.rate1 Som.radius1 (by norm_num) X _ loc hloc,
    step_eq Som.rate2 Som.radius2 (by norm_num) X _ loc hloc, step_eq Som.rate3 Som.radius3 (by norm_num) X _ loc hloc]

/-- The reference's result is the model's. -/
theorem result_eq (X W : Fin 1024 → Fin 64 → ℝ) (loc : IVec S1024x2 32) (hloc : Lattice loc) :
    result (F := Ideal) (emb X) (emb W) loc = emb (Som.output X W) := by
  unfold result
  rw [w4_eq X W loc hloc, step_eq Som.rate4 Som.radius4 (by norm_num) X _ loc hloc]
  funext i
  rw [eq_ix2 i]
  exact rows_at _ _ _ _ (least_dist X (Som.wFour X W) (i 0)) (i 1)

end Cert.ReferenceIdeal.Line

end
-- ==== Proof.Admissible.lean ====
module

public import proofs.«01_k».proof.Defs
public import proofs.«01_k».proof.Proof.Gen.Pre_admissible
public import proofs.«01_k».proof.Proof.RefValue

/-!
What the precondition says of the arguments: the float arrays hold real numbers, and the locations are the lattice's.
-/

@[expose] public section

set_option maxRecDepth 16384

noncomputable section

namespace Cert.Proof

open Idealize.ShloMosaic Idealize.SL.Sem
open Cert.ReferenceIdeal.Line (emb Lattice)
open Cert.Pre_admissible Cert.Pre_admissible.Facts

/-- The test that each entry's absolute value is below infinity. -/
def bounded (u : FVec Ideal S1024x64 .f32) : IVec S1024x64 1 :=
  cmpf .olt (Host.absf u) (broadcastInDim S1024x64 ![] bcast_S_S1024x64 (constant S_ .f32 0x7F800000#32))

/-- The lattice's locations: the row of unit `k` in column 0, its column in column 1. -/
def places : IVec S1024x2 32 :=
  select (cmpi .eq (iotaInDim S1024x2 32 1) (broadcastInDim S1024x2 ![] bcast_S_S1024x2 (constantI S_ 32 0#32)))
    (Host.shrsi (iotaInDim S1024x2 32 0) (broadcastInDim S1024x2 ![] bcast_S_S1024x2 (constantI S_ 32 5#32)))
    (andi (iotaInDim S1024x2 32 0) (broadcastInDim S1024x2 ![] bcast_S_S1024x2 (constantI S_ 32 31#32)))

/-! The precondition's first three parts, by name. -/

theorem fst_eq (u v : FVec Ideal S1024x64 .f32) (loc : IVec S1024x2 32) : (Pre_admissible.fn (F := Ideal) u v loc).1 = bounded u := rfl

theorem snd_eq (u v : FVec Ideal S1024x64 .f32) (loc : IVec S1024x2 32) : (Pre_admissible.fn (F := Ideal) u v loc).2.1 = bounded v := rfl

theorem third_eq (u v : FVec Ideal S1024x64 .f32) (loc : IVec S1024x2 32) : (Pre_admissible.fn (F := Ideal) u v loc).2.2.1 = cmpi .eq loc places := rfl

/-- A bounded array holds real numbers. -/
theorem real_of_bounded (u : FVec Ideal S1024x64 .f32) (h : bounded u = fun _ => 1#1) : ∃ U, u = emb U := by
  refine ⟨fun i j => (u (ix2 i j)).toReal, ?_⟩
  funext i
  have hi := congrFun h i
  pointwise [bounded] at hi
  rw [Som.word_top] at hi
  have hlt : max (u i) (-u i) < ⊤ := by
    by_contra hc
    have h0 : BitVec.ofBool (decide (max (u i) (-u i) < ⊤)) = 1#1 := hi
    rw [decide_eq_false hc] at h0
    exact absurd h0 (by decide)
  have h1 : u i ≠ ⊤ := ((le_max_left _ _).trans_lt hlt).ne
  have h2 : u i ≠ ⊥ := fun h => by
    have := (le_max_right (u i) (-u i)).trans_lt hlt
    rw [h, EReal.neg_bot] at this
    exact absurd this (lt_irrefl _)
  have h3 : u (ix2 (i 0) (i 1)) = u i := congrArg u (eq_ix2 i).symm
  show u i = (((u (ix2 (i 0) (i 1))).toReal : ℝ) : EReal)
  rw [h3, EReal.coe_toReal h1 h2]

/-- The row of unit `k`, as the precondition computes it. -/
theorem place_row : ∀ k : Fin 1024, IntOp.shrsi ArithUnit.host (BitVec.ofNat 32 k.val) 5#32 = BitVec.ofNat 32 (k.val / 32) := by decide +kernel

/-- The column of unit `k`, as the precondition computes it. -/
theorem place_column : ∀ k : Fin 1024, Scalar.select (IntOp.cmpi CmpIPredicate.eq 1#32 0#32) (IntOp.shrsi ArithUnit.host (BitVec.ofNat 32 k.val) 5#32)
    (IntOp.andi (BitVec.ofNat 32 k.val) 31#32) = BitVec.ofNat 32 (k.val % 32) := by decide +kernel

/-- Two words that compare equal are equal. -/
theorem eq_of_test {n : Nat} {a b : BitVec n} (h : IntOp.cmpi .eq a b = 1#1) : a = b := by
  by_contra hc
  have h0 : BitVec.ofBool (a == b) = 1#1 := h
  rw [beq_eq_false_iff_ne.2 hc] at h0
  exact absurd h0 (by decide)

/-- Locations equal to the computed ones are the lattice's. -/
theorem lattice_of_places (loc : IVec S1024x2 32) (h : cmpi .eq loc places = fun _ => 1#1) : Lattice loc := by
  intro k
  have h0 := congrFun h (ix2 k 0)
  have h1 := congrFun h (ix2 k 1)
  pointwise [places] at h0 h1
  exact ⟨(eq_of_test h0).trans (place_row k), (eq_of_test h1).trans (place_column k)⟩

end Cert.Proof

end
-- ==== Proof.lean ====
module

public import proofs.«01_k».proof.Defs
public import proofs.«01_k».proof.Proof.Frames
public import proofs.«01_k».proof.Proof.KernelValue
public import proofs.«01_k».proof.Proof.RefValue
public import proofs.«01_k».proof.Proof.Admissible

@[expose] public section

noncomputable section

namespace Cert.Proof

open Idealize.ShloMosaic Idealize.SL.Sem

/-- The two programs return the same array: both return the model's output. -/
theorem results_eq (u v : FVec Ideal Pre_admissible.S1024x64 .f32) (loc : IVec Pre_admissible.S1024x2 32)
    (hu : (Pre_admissible.fn (F := Ideal) u v loc).1 = fun _ => 1#1) (hv : (Pre_admissible.fn (F := Ideal) u v loc).2.1 = fun _ => 1#1)
    (hl : (Pre_admissible.fn (F := Ideal) u v loc).2.2.1 = fun _ => 1#1) :
    ReferenceIdeal.Line.result (F := Ideal) u v loc = KernelIdeal.Body.whole (F := Ideal) u v := by
  obtain ⟨U, rfl⟩ := real_of_bounded u ((fst_eq u v loc).symm.trans hu)
  obtain ⟨V, rfl⟩ := real_of_bounded v ((snd_eq _ v loc).symm.trans hv)
  have hloc := lattice_of_places loc ((third_eq _ _ loc).symm.trans hl)
  exact (ReferenceIdeal.Line.result_eq U V loc hloc).trans (KernelIdeal.Body.whole_eq U V).symm

theorem algebraic : Cert.algebraic_KernelIdeal_ReferenceIdeal := by
  intro m g m' g' hpre hargs
  refine ⟨fun c => KernelIdeal.Body.whole (F := Ideal) (m ((c.tc : Thread KernelIdeal.nD KernelIdeal.τ).loc KernelIdeal.main_arg0))
    (m ((c.tc : Thread KernelIdeal.nD KernelIdeal.τ).loc KernelIdeal.main_arg1)), KernelIdeal.Body.run m g, ?_⟩
  refine (θ_run ReferenceIdeal.defs _ _).mono (fun r h c => ?_) (ReferenceIdeal.Line.run (F := Ideal) m' g')
  obtain ⟨hr, h0⟩ := h c
  obtain ⟨ha, hb, hc⟩ := hargs c
  obtain ⟨hu, hv, hl, -⟩ := hpre c
  refine ⟨hr.trans ?_, h0⟩
  rw [ha, hb, hc]
  exact results_eq _ _ _ hu hv hl

/-- The certificate. -/
theorem claim : Cert.Claim :=
  ⟨Cert.Kernel.Gen.facts, Cert.KernelIdeal.Gen.facts, Cert.ReferenceIdeal.Gen.facts, Cert.Pre_admissible.Gen.facts,
    frame_kernel, frame_ideal, frame_reference, preserves, algebraic⟩

end Cert.Proof

end
